-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x512 : Shape := ⟨3, ![2, 4096, 512]⟩
abbrev S16x256x128 : Shape := ⟨3, ![16, 256, 128]⟩
abbrev S8x128 : Shape := ⟨2, ![8, 128]⟩
abbrev S16x8x128 : Shape := ⟨3, ![16, 8, 128]⟩
abbrev S8 : Shape := ⟨1, ![8]⟩
abbrev S16 : Shape := ⟨1, ![16]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x4096x512 : Shape := ⟨3, ![1, 4096, 512]⟩
abbrev S4096x512 : Shape := ⟨2, ![4096, 512]⟩
abbrev S256x512 : Shape := ⟨2, ![256, 512]⟩
abbrev S1x256x512 : Shape := ⟨3, ![1, 256, 512]⟩
abbrev S1x1x1 : Shape := ⟨3, ![1, 1, 1]⟩
abbrev S256x128 : Shape := ⟨2, ![256, 128]⟩
abbrev S1x256x128 : Shape := ⟨3, ![1, 256, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S2x4096x512, .f32⟩
  | .local _ .vmem, ⟨3, _⟩ => ⟨S16x256x128, .bf16⟩
  | .local _ .vmem, ⟨4, _⟩ => ⟨S8x128, .f32⟩
  | .local _ .vmem, ⟨5, _⟩ => ⟨S16x256x128, .bf16⟩
  | .local _ .vmem, ⟨6, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_0 : BitVec 32 := 1#32
  let v4 : BitVec 32 := Scalar.addi v3 c1_i32_0
  let v5 : BitVec 32 := Scalar.addi v4 c0_i32
  let c4_i32_1 : BitVec 32 := 4#32
  let v6 : BitVec 32 := Scalar.remsi v5 c4_i32_1
  let c512_i32 : BitVec 32 := 512#32
  let v7 : BitVec 32 := Scalar.muli v6 c512_i32
  ![0, v7.toNat]
def k0_off2 (d0 : Dev nD) (c0_i32 : BitVec 32) : Fin 2 → Nat :=
  let c1024_i32_13 : BitVec 32 := 1024#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_0 : BitVec 32 := 1#32
  let v4 : BitVec 32 := Scalar.addi v3 c1_i32_0
  let v5 : BitVec 32 := Scalar.addi v4 c0_i32
  let c4_i32_1 : BitVec 32 := 4#32
  let v6 : BitVec 32 := Scalar.remsi v5 c4_i32_1
  let c512_i32_2 : BitVec 32 := 512#32
  let v8 : BitVec 32 := Scalar.muli v6 c512_i32_2
  ![1024, v8.toNat]
def k0_off3 (d0 : Dev nD) (c0_i32 : BitVec 32) : Fin 2 → Nat :=
  let c2048_i32_16 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_0 : BitVec 32 := 1#32
  let v4 : BitVec 32 := Scalar.addi v3 c1_i32_0
  let v5 : BitVec 32 := Scalar.addi v4 c0_i32
  let c4_i32_1 : BitVec 32 := 4#32
  let v6 : BitVec 32 := Scalar.remsi v5 c4_i32_1
  let c512_i32_3 : BitVec 32 := 512#32
  let v9 : BitVec 32 := Scalar.muli v6 c512_i32_3
  ![2048, v9.toNat]
def k0_off4 (d0 : Dev nD) (c0_i32 : BitVec 32) : Fin 2 → Nat :=
  let c3072_i32_19 : BitVec 32 := 3072#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_0 : BitVec 32 := 1#32
  let v4 : BitVec 32 := Scalar.addi v3 c1_i32_0
  let v5 : BitVec 32 := Scalar.addi v4 c0_i32
  let c4_i32_1 : BitVec 32 := 4#32
  let v6 : BitVec 32 := Scalar.remsi v5 c4_i32_1
  let c512_i32_4 : BitVec 32 := 512#32
  let v10 : BitVec 32 := Scalar.muli v6 c512_i32_4
  ![3072, v10.toNat]
def k0_dev1 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_44 : BitVec 32 := 1#32
  let v59 : BitVec 32 := Scalar.addi v2 c1_i32_44
  let c16_i32_45 : BitVec 32 := 16#32
  let v60 : BitVec 32 := Scalar.remsi v59 c16_i32_45
  let c1_i32_47 : BitVec 32 := 1#32
  let v61 : BitVec 32 := Scalar.muli v60 c1_i32_47
  let v62 : BitVec 32 := Scalar.addi c0_i32_48 v61
  v62.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_49 : BitVec 32 := 2#32
  let v63 : BitVec 32 := Scalar.addi v2 c2_i32_49
  let c16_i32_50 : BitVec 32 := 16#32
  let v64 : BitVec 32 := Scalar.remsi v63 c16_i32_50
  let c1_i32_52 : BitVec 32 := 1#32
  let v65 : BitVec 32 := Scalar.muli v64 c1_i32_52
  let v66 : BitVec 32 := Scalar.addi c0_i32_53 v65
  v66.toNat
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_54 : BitVec 32 := 3#32
  let v67 : BitVec 32 := Scalar.addi v2 c3_i32_54
  let c16_i32_55 : BitVec 32 := 16#32
  let v68 : BitVec 32 := Scalar.remsi v67 c16_i32_55
  let c1_i32_57 : BitVec 32 := 1#32
  let v69 : BitVec 32 := Scalar.muli v68 c1_i32_57
  let v70 : BitVec 32 := Scalar.addi c0_i32_58 v69
  v70.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_59 : BitVec 32 := 4#32
  let v71 : BitVec 32 := Scalar.addi v2 c4_i32_59
  let c16_i32_60 : BitVec 32 := 16#32
  let v72 : BitVec 32 := Scalar.remsi v71 c16_i32_60
  let c1_i32_62 : BitVec 32 := 1#32
  let v73 : BitVec 32 := Scalar.muli v72 c1_i32_62
  let v74 : BitVec 32 := Scalar.addi c0_i32_63 v73
  v74.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_64 : BitVec 32 := 5#32
  let v75 : BitVec 32 := Scalar.addi v2 c5_i32_64
  let c16_i32_65 : BitVec 32 := 16#32
  let v76 : BitVec 32 := Scalar.remsi v75 c16_i32_65
  let c1_i32_67 : BitVec 32 := 1#32
  let v77 : BitVec 32 := Scalar.muli v76 c1_i32_67
  let v78 : BitVec 32 := Scalar.addi c0_i32_68 v77
  v78.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_69 : BitVec 32 := 6#32
  let v79 : BitVec 32 := Scalar.addi v2 c6_i32_69
  let c16_i32_70 : BitVec 32 := 16#32
  let v80 : BitVec 32 := Scalar.remsi v79 c16_i32_70
  let c1_i32_72 : BitVec 32 := 1#32
  let v81 : BitVec 32 := Scalar.muli v80 c1_i32_72
  let v82 : BitVec 32 := Scalar.addi c0_i32_73 v81
  v82.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_74 : BitVec 32 := 7#32
  let v83 : BitVec 32 := Scalar.addi v2 c7_i32_74
  let c16_i32_75 : BitVec 32 := 16#32
  let v84 : BitVec 32 := Scalar.remsi v83 c16_i32_75
  let c1_i32_77 : BitVec 32 := 1#32
  let v85 : BitVec 32 := Scalar.muli v84 c1_i32_77
  let v86 : BitVec 32 := Scalar.addi c0_i32_78 v85
  v86.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v87 : BitVec 32 := Scalar.addi v2 c8_i32
  let c16_i32_79 : BitVec 32 := 16#32
  let v88 : BitVec 32 := Scalar.remsi v87 c16_i32_79
  let c1_i32_81 : BitVec 32 := 1#32
  let v89 : BitVec 32 := Scalar.muli v88 c1_i32_81
  let v90 : BitVec 32 := Scalar.addi c0_i32_82 v89
  v90.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v91 : BitVec 32 := Scalar.addi v2 c9_i32
  let c16_i32_83 : BitVec 32 := 16#32
  let v92 : BitVec 32 := Scalar.remsi v91 c16_i32_83
  let c1_i32_85 : BitVec 32 := 1#32
  let v93 : BitVec 32 := Scalar.muli v92 c1_i32_85
  let v94 : BitVec 32 := Scalar.addi c0_i32_86 v93
  v94.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v95 : BitVec 32 := Scalar.addi v2 c10_i32
  let c16_i32_87 : BitVec 32 := 16#32
  let v96 : BitVec 32 := Scalar.remsi v95 c16_i32_87
  let c1_i32_89 : BitVec 32 := 1#32
  let v97 : BitVec 32 := Scalar.muli v96 c1_i32_89
  let v98 : BitVec 32 := Scalar.addi c0_i32_90 v97
  v98.toNat
def k0_dev11 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v99 : BitVec 32 := Scalar.addi v2 c11_i32
  let c16_i32_91 : BitVec 32 := 16#32
  let v100 : BitVec 32 := Scalar.remsi v99 c16_i32_91
  let c1_i32_93 : BitVec 32 := 1#32
  let v101 : BitVec 32 := Scalar.muli v100 c1_i32_93
  let v102 : BitVec 32 := Scalar.addi c0_i32_94 v101
  v102.toNat
def k0_dev12 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v103 : BitVec 32 := Scalar.addi v2 c12_i32
  let c16_i32_95 : BitVec 32 := 16#32
  let v104 : BitVec 32 := Scalar.remsi v103 c16_i32_95
  let c1_i32_97 : BitVec 32 := 1#32
  let v105 : BitVec 32 := Scalar.muli v104 c1_i32_97
  let v106 : BitVec 32 := Scalar.addi c0_i32_98 v105
  v106.toNat
def k0_dev13 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v107 : BitVec 32 := Scalar.addi v2 c13_i32
  let c16_i32_99 : BitVec 32 := 16#32
  let v108 : BitVec 32 := Scalar.remsi v107 c16_i32_99
  let c1_i32_101 : BitVec 32 := 1#32
  let v109 : BitVec 32 := Scalar.muli v108 c1_i32_101
  let v110 : BitVec 32 := Scalar.addi c0_i32_102 v109
  v110.toNat
def k0_dev14 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v111 : BitVec 32 := Scalar.addi v2 c14_i32
  let c16_i32_103 : BitVec 32 := 16#32
  let v112 : BitVec 32 := Scalar.remsi v111 c16_i32_103
  let c1_i32_105 : BitVec 32 := 1#32
  let v113 : BitVec 32 := Scalar.muli v112 c1_i32_105
  let v114 : BitVec 32 := Scalar.addi c0_i32_106 v113
  v114.toNat
def k0_dev15 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v115 : BitVec 32 := Scalar.addi v2 c15_i32
  let c16_i32_107 : BitVec 32 := 16#32
  let v116 : BitVec 32 := Scalar.remsi v115 c16_i32_107
  let c1_i32_109 : BitVec 32 := 1#32
  let v117 : BitVec 32 := Scalar.muli v116 c1_i32_109
  let v118 : BitVec 32 := Scalar.addi c0_i32_110 v117
  v118.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  let v192 : BitVec 1 := Scalar.cmpi .eq v190 v2
  let v193 : BitVec 32 := Scalar.extui v192
  let c0_i32_178 : BitVec 32 := 0#32
  let v194 : BitVec 1 := Scalar.cmpi .ne v193 c0_i32_178
  v194

def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  let v195 : BitVec 1 := Scalar.cmpi .ne v190 v2
  let v196 : BitVec 32 := Scalar.extui v195
  let c0_i32_179 : BitVec 32 := 0#32
  let v197 : BitVec 1 := Scalar.cmpi .ne v196 c0_i32_179
  v197

def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  let v1132 : Index := Scalar.indexCast v190
  let c0_863 : Index := 0#32
  let c0_864 : Index := 0#32
  ![v1132.toNat, 0, 0]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  ![v190.toNat]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  let c0_i32_869 : BitVec 32 := 0#32
  let c0_i32_870 : BitVec 32 := 0#32
  ![v190.toNat, 0, 0]
def k0_dev16 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_176 : BitVec 32 := 4#32
  let v189 : BitVec 32 := Scalar.muli v121 c4_i32_176
  let c0_i32_177 : BitVec 32 := 0#32
  let v190 : BitVec 32 := Scalar.addi v189 c0_i32_177
  let c1_i32_865 : BitVec 32 := 1#32
  let v1136 : BitVec 32 := Scalar.muli v190 c1_i32_865
  let v1137 : BitVec 32 := Scalar.addi c0_i32_866 v1136
  v1137.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  let v201 : BitVec 1 := Scalar.cmpi .eq v199 v2
  let v202 : BitVec 32 := Scalar.extui v201
  let c0_i32_182 : BitVec 32 := 0#32
  let v203 : BitVec 1 := Scalar.cmpi .ne v202 c0_i32_182
  v203

def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  let v204 : BitVec 1 := Scalar.cmpi .ne v199 v2
  let v205 : BitVec 32 := Scalar.extui v204
  let c0_i32_183 : BitVec 32 := 0#32
  let v206 : BitVec 1 := Scalar.cmpi .ne v205 c0_i32_183
  v206

def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  let v1132 : Index := Scalar.indexCast v199
  let c0_863 : Index := 0#32
  let c0_864 : Index := 0#32
  ![v1132.toNat, 0, 0]
def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  ![v199.toNat]
def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  let c0_i32_869 : BitVec 32 := 0#32
  let c0_i32_870 : BitVec 32 := 0#32
  ![v199.toNat, 0, 0]
def k0_dev17 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_180 : BitVec 32 := 4#32
  let v198 : BitVec 32 := Scalar.muli v121 c4_i32_180
  let c1_i32_181 : BitVec 32 := 1#32
  let v199 : BitVec 32 := Scalar.addi v198 c1_i32_181
  let c1_i32_865 : BitVec 32 := 1#32
  let v1136 : BitVec 32 := Scalar.muli v199 c1_i32_865
  let v1137 : BitVec 32 := Scalar.addi c0_i32_866 v1136
  v1137.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  let v210 : BitVec 1 := Scalar.cmpi .eq v208 v2
  let v211 : BitVec 32 := Scalar.extui v210
  let c0_i32_186 : BitVec 32 := 0#32
  let v212 : BitVec 1 := Scalar.cmpi .ne v211 c0_i32_186
  v212

def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  let v213 : BitVec 1 := Scalar.cmpi .ne v208 v2
  let v214 : BitVec 32 := Scalar.extui v213
  let c0_i32_187 : BitVec 32 := 0#32
  let v215 : BitVec 1 := Scalar.cmpi .ne v214 c0_i32_187
  v215

def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  let v1132 : Index := Scalar.indexCast v208
  let c0_863 : Index := 0#32
  let c0_864 : Index := 0#32
  ![v1132.toNat, 0, 0]
def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  ![v208.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  let c0_i32_869 : BitVec 32 := 0#32
  let c0_i32_870 : BitVec 32 := 0#32
  ![v208.toNat, 0, 0]
def k0_dev18 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_184 : BitVec 32 := 4#32
  let v207 : BitVec 32 := Scalar.muli v121 c4_i32_184
  let c2_i32_185 : BitVec 32 := 2#32
  let v208 : BitVec 32 := Scalar.addi v207 c2_i32_185
  let c1_i32_865 : BitVec 32 := 1#32
  let v1136 : BitVec 32 := Scalar.muli v208 c1_i32_865
  let v1137 : BitVec 32 := Scalar.addi c0_i32_866 v1136
  v1137.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  let v219 : BitVec 1 := Scalar.cmpi .eq v217 v2
  let v220 : BitVec 32 := Scalar.extui v219
  let c0_i32_190 : BitVec 32 := 0#32
  let v221 : BitVec 1 := Scalar.cmpi .ne v220 c0_i32_190
  v221

def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  let v222 : BitVec 1 := Scalar.cmpi .ne v217 v2
  let v223 : BitVec 32 := Scalar.extui v222
  let c0_i32_191 : BitVec 32 := 0#32
  let v224 : BitVec 1 := Scalar.cmpi .ne v223 c0_i32_191
  v224

def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  let v1132 : Index := Scalar.indexCast v217
  let c0_863 : Index := 0#32
  let c0_864 : Index := 0#32
  ![v1132.toNat, 0, 0]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  ![v217.toNat]
def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  let c0_i32_869 : BitVec 32 := 0#32
  let c0_i32_870 : BitVec 32 := 0#32
  ![v217.toNat, 0, 0]
def k0_dev19 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_112 : BitVec 32 := 1#32
  let v119 : BitVec 32 := Scalar.addi v3 c1_i32_112
  let c0_i32_113 : BitVec 32 := 0#32
  let v120 : BitVec 32 := Scalar.addi v119 c0_i32_113
  let c4_i32_114 : BitVec 32 := 4#32
  let v121 : BitVec 32 := Scalar.remsi v120 c4_i32_114
  let c4_i32_188 : BitVec 32 := 4#32
  let v216 : BitVec 32 := Scalar.muli v121 c4_i32_188
  let c3_i32_189 : BitVec 32 := 3#32
  let v217 : BitVec 32 := Scalar.addi v216 c3_i32_189
  let c1_i32_865 : BitVec 32 := 1#32
  let v1136 : BitVec 32 := Scalar.muli v217 c1_i32_865
  let v1137 : BitVec 32 := Scalar.addi c0_i32_866 v1136
  v1137.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  let v298 : BitVec 1 := Scalar.cmpi .eq v296 v2
  let v299 : BitVec 32 := Scalar.extui v298
  let c0_i32_258 : BitVec 32 := 0#32
  let v300 : BitVec 1 := Scalar.cmpi .ne v299 c0_i32_258
  v300

def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  let v301 : BitVec 1 := Scalar.cmpi .ne v296 v2
  let v302 : BitVec 32 := Scalar.extui v301
  let c0_i32_259 : BitVec 32 := 0#32
  let v303 : BitVec 1 := Scalar.cmpi .ne v302 c0_i32_259
  v303

def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  let v1132 : Index := Scalar.indexCast v296
  let c0_863 : Index := 0#32
  let c0_864 : Index := 0#32
  ![v1132.toNat, 0, 0]
def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  ![v296.toNat]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  let c0_i32_869 : BitVec 32 := 0#32
  let c0_i32_870 : BitVec 32 := 0#32
  ![v296.toNat, 0, 0]
def k0_dev20 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_256 : BitVec 32 := 4#32
  let v295 : BitVec 32 := Scalar.muli v227 c4_i32_256
  let c0_i32_257 : BitVec 32 := 0#32
  let v296 : BitVec 32 := Scalar.addi v295 c0_i32_257
  let c1_i32_865 : BitVec 32 := 1#32
  let v1136 : BitVec 32 := Scalar.muli v296 c1_i32_865
  let v1137 : BitVec 32 := Scalar.addi c0_i32_866 v1136
  v1137.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  let v307 : BitVec 1 := Scalar.cmpi .eq v305 v2
  let v308 : BitVec 32 := Scalar.extui v307
  let c0_i32_262 : BitVec 32 := 0#32
  let v309 : BitVec 1 := Scalar.cmpi .ne v308 c0_i32_262
  v309

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  let v310 : BitVec 1 := Scalar.cmpi .ne v305 v2
  let v311 : BitVec 32 := Scalar.extui v310
  let c0_i32_263 : BitVec 32 := 0#32
  let v312 : BitVec 1 := Scalar.cmpi .ne v311 c0_i32_263
  v312

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  let v1132 : Index := Scalar.indexCast v305
  let c0_863 : Index := 0#32
  let c0_864 : Index := 0#32
  ![v1132.toNat, 0, 0]
def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  ![v305.toNat]
def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  let c0_i32_869 : BitVec 32 := 0#32
  let c0_i32_870 : BitVec 32 := 0#32
  ![v305.toNat, 0, 0]
def k0_dev21 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_260 : BitVec 32 := 4#32
  let v304 : BitVec 32 := Scalar.muli v227 c4_i32_260
  let c1_i32_261 : BitVec 32 := 1#32
  let v305 : BitVec 32 := Scalar.addi v304 c1_i32_261
  let c1_i32_865 : BitVec 32 := 1#32
  let v1136 : BitVec 32 := Scalar.muli v305 c1_i32_865
  let v1137 : BitVec 32 := Scalar.addi c0_i32_866 v1136
  v1137.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  let v316 : BitVec 1 := Scalar.cmpi .eq v314 v2
  let v317 : BitVec 32 := Scalar.extui v316
  let c0_i32_266 : BitVec 32 := 0#32
  let v318 : BitVec 1 := Scalar.cmpi .ne v317 c0_i32_266
  v318

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  let v319 : BitVec 1 := Scalar.cmpi .ne v314 v2
  let v320 : BitVec 32 := Scalar.extui v319
  let c0_i32_267 : BitVec 32 := 0#32
  let v321 : BitVec 1 := Scalar.cmpi .ne v320 c0_i32_267
  v321

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  let v1132 : Index := Scalar.indexCast v314
  let c0_863 : Index := 0#32
  let c0_864 : Index := 0#32
  ![v1132.toNat, 0, 0]
def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  ![v314.toNat]
def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  let c0_i32_869 : BitVec 32 := 0#32
  let c0_i32_870 : BitVec 32 := 0#32
  ![v314.toNat, 0, 0]
def k0_dev22 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_264 : BitVec 32 := 4#32
  let v313 : BitVec 32 := Scalar.muli v227 c4_i32_264
  let c2_i32_265 : BitVec 32 := 2#32
  let v314 : BitVec 32 := Scalar.addi v313 c2_i32_265
  let c1_i32_865 : BitVec 32 := 1#32
  let v1136 : BitVec 32 := Scalar.muli v314 c1_i32_865
  let v1137 : BitVec 32 := Scalar.addi c0_i32_866 v1136
  v1137.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  let v325 : BitVec 1 := Scalar.cmpi .eq v323 v2
  let v326 : BitVec 32 := Scalar.extui v325
  let c0_i32_270 : BitVec 32 := 0#32
  let v327 : BitVec 1 := Scalar.cmpi .ne v326 c0_i32_270
  v327

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  let v328 : BitVec 1 := Scalar.cmpi .ne v323 v2
  let v329 : BitVec 32 := Scalar.extui v328
  let c0_i32_271 : BitVec 32 := 0#32
  let v330 : BitVec 1 := Scalar.cmpi .ne v329 c0_i32_271
  v330

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  let v1132 : Index := Scalar.indexCast v323
  let c0_863 : Index := 0#32
  let c0_864 : Index := 0#32
  ![v1132.toNat, 0, 0]
def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  ![v323.toNat]
def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  let c0_i32_869 : BitVec 32 := 0#32
  let c0_i32_870 : BitVec 32 := 0#32
  ![v323.toNat, 0, 0]
def k0_dev23 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_192 : BitVec 32 := 1#32
  let v225 : BitVec 32 := Scalar.addi v3 c1_i32_192
  let c1_i32_193 : BitVec 32 := 1#32
  let v226 : BitVec 32 := Scalar.addi v225 c1_i32_193
  let c4_i32_194 : BitVec 32 := 4#32
  let v227 : BitVec 32 := Scalar.remsi v226 c4_i32_194
  let c4_i32_268 : BitVec 32 := 4#32
  let v322 : BitVec 32 := Scalar.muli v227 c4_i32_268
  let c3_i32_269 : BitVec 32 := 3#32
  let v323 : BitVec 32 := Scalar.addi v322 c3_i32_269
  let c1_i32_865 : BitVec 32 := 1#32
  let v1136 : BitVec 32 := Scalar.muli v323 c1_i32_865
  let v1137 : BitVec 32 := Scalar.addi c0_i32_866 v1136
  v1137.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  let v377 : BitVec 1 := Scalar.cmpi .eq v375 v2
  let v378 : BitVec 32 := Scalar.extui v377
  let c0_i32_312 : BitVec 32 := 0#32
  let v379 : BitVec 1 := Scalar.cmpi .ne v378 c0_i32_312
  v379

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  let v380 : BitVec 1 := Scalar.cmpi .ne v375 v2
  let v381 : BitVec 32 := Scalar.extui v380
  let c0_i32_313 : BitVec 32 := 0#32
  let v382 : BitVec 1 := Scalar.cmpi .ne v381 c0_i32_313
  v382

def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  let v1132 : Index := Scalar.indexCast v375
  let c0_863 : Index := 0#32
  let c0_864 : Index := 0#32
  ![v1132.toNat, 0, 0]
def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  ![v375.toNat]
def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  let c0_i32_869 : BitVec 32 := 0#32
  let c0_i32_870 : BitVec 32 := 0#32
  ![v375.toNat, 0, 0]
def k0_dev24 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_310 : BitVec 32 := 4#32
  let v374 : BitVec 32 := Scalar.muli v333 c4_i32_310
  let c0_i32_311 : BitVec 32 := 0#32
  let v375 : BitVec 32 := Scalar.addi v374 c0_i32_311
  let c1_i32_865 : BitVec 32 := 1#32
  let v1136 : BitVec 32 := Scalar.muli v375 c1_i32_865
  let v1137 : BitVec 32 := Scalar.addi c0_i32_866 v1136
  v1137.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  let v386 : BitVec 1 := Scalar.cmpi .eq v384 v2
  let v387 : BitVec 32 := Scalar.extui v386
  let c0_i32_316 : BitVec 32 := 0#32
  let v388 : BitVec 1 := Scalar.cmpi .ne v387 c0_i32_316
  v388

def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  let v389 : BitVec 1 := Scalar.cmpi .ne v384 v2
  let v390 : BitVec 32 := Scalar.extui v389
  let c0_i32_317 : BitVec 32 := 0#32
  let v391 : BitVec 1 := Scalar.cmpi .ne v390 c0_i32_317
  v391

def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  let v1132 : Index := Scalar.indexCast v384
  let c0_863 : Index := 0#32
  let c0_864 : Index := 0#32
  ![v1132.toNat, 0, 0]
def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  ![v384.toNat]
def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  let c0_i32_869 : BitVec 32 := 0#32
  let c0_i32_870 : BitVec 32 := 0#32
  ![v384.toNat, 0, 0]
def k0_dev25 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_314 : BitVec 32 := 4#32
  let v383 : BitVec 32 := Scalar.muli v333 c4_i32_314
  let c1_i32_315 : BitVec 32 := 1#32
  let v384 : BitVec 32 := Scalar.addi v383 c1_i32_315
  let c1_i32_865 : BitVec 32 := 1#32
  let v1136 : BitVec 32 := Scalar.muli v384 c1_i32_865
  let v1137 : BitVec 32 := Scalar.addi c0_i32_866 v1136
  v1137.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  let v395 : BitVec 1 := Scalar.cmpi .eq v393 v2
  let v396 : BitVec 32 := Scalar.extui v395
  let c0_i32_320 : BitVec 32 := 0#32
  let v397 : BitVec 1 := Scalar.cmpi .ne v396 c0_i32_320
  v397

def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  let v398 : BitVec 1 := Scalar.cmpi .ne v393 v2
  let v399 : BitVec 32 := Scalar.extui v398
  let c0_i32_321 : BitVec 32 := 0#32
  let v400 : BitVec 1 := Scalar.cmpi .ne v399 c0_i32_321
  v400

def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  let v1132 : Index := Scalar.indexCast v393
  let c0_863 : Index := 0#32
  let c0_864 : Index := 0#32
  ![v1132.toNat, 0, 0]
def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  ![v393.toNat]
def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  let c0_i32_869 : BitVec 32 := 0#32
  let c0_i32_870 : BitVec 32 := 0#32
  ![v393.toNat, 0, 0]
def k0_dev26 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_318 : BitVec 32 := 4#32
  let v392 : BitVec 32 := Scalar.muli v333 c4_i32_318
  let c2_i32_319 : BitVec 32 := 2#32
  let v393 : BitVec 32 := Scalar.addi v392 c2_i32_319
  let c1_i32_865 : BitVec 32 := 1#32
  let v1136 : BitVec 32 := Scalar.muli v393 c1_i32_865
  let v1137 : BitVec 32 := Scalar.addi c0_i32_866 v1136
  v1137.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  let v404 : BitVec 1 := Scalar.cmpi .eq v402 v2
  let v405 : BitVec 32 := Scalar.extui v404
  let c0_i32_324 : BitVec 32 := 0#32
  let v406 : BitVec 1 := Scalar.cmpi .ne v405 c0_i32_324
  v406

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  let v407 : BitVec 1 := Scalar.cmpi .ne v402 v2
  let v408 : BitVec 32 := Scalar.extui v407
  let c0_i32_325 : BitVec 32 := 0#32
  let v409 : BitVec 1 := Scalar.cmpi .ne v408 c0_i32_325
  v409

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  let v1132 : Index := Scalar.indexCast v402
  let c0_863 : Index := 0#32
  let c0_864 : Index := 0#32
  ![v1132.toNat, 0, 0]
def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  ![v402.toNat]
def k0_off74 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  let c0_i32_869 : BitVec 32 := 0#32
  let c0_i32_870 : BitVec 32 := 0#32
  ![v402.toNat, 0, 0]
def k0_dev27 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_272 : BitVec 32 := 1#32
  let v331 : BitVec 32 := Scalar.addi v3 c1_i32_272
  let c2_i32_273 : BitVec 32 := 2#32
  let v332 : BitVec 32 := Scalar.addi v331 c2_i32_273
  let c4_i32_274 : BitVec 32 := 4#32
  let v333 : BitVec 32 := Scalar.remsi v332 c4_i32_274
  let c4_i32_322 : BitVec 32 := 4#32
  let v401 : BitVec 32 := Scalar.muli v333 c4_i32_322
  let c3_i32_323 : BitVec 32 := 3#32
  let v402 : BitVec 32 := Scalar.addi v401 c3_i32_323
  let c1_i32_865 : BitVec 32 := 1#32
  let v1136 : BitVec 32 := Scalar.muli v402 c1_i32_865
  let v1137 : BitVec 32 := Scalar.addi c0_i32_866 v1136
  v1137.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  let v456 : BitVec 1 := Scalar.cmpi .eq v454 v2
  let v457 : BitVec 32 := Scalar.extui v456
  let c0_i32_366 : BitVec 32 := 0#32
  let v458 : BitVec 1 := Scalar.cmpi .ne v457 c0_i32_366
  v458

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  let v459 : BitVec 1 := Scalar.cmpi .ne v454 v2
  let v460 : BitVec 32 := Scalar.extui v459
  let c0_i32_367 : BitVec 32 := 0#32
  let v461 : BitVec 1 := Scalar.cmpi .ne v460 c0_i32_367
  v461

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  let v1132 : Index := Scalar.indexCast v454
  let c0_863 : Index := 0#32
  let c0_864 : Index := 0#32
  ![v1132.toNat, 0, 0]
def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  ![v454.toNat]
def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  let c0_i32_869 : BitVec 32 := 0#32
  let c0_i32_870 : BitVec 32 := 0#32
  ![v454.toNat, 0, 0]
def k0_dev28 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_364 : BitVec 32 := 4#32
  let v453 : BitVec 32 := Scalar.muli v412 c4_i32_364
  let c0_i32_365 : BitVec 32 := 0#32
  let v454 : BitVec 32 := Scalar.addi v453 c0_i32_365
  let c1_i32_865 : BitVec 32 := 1#32
  let v1136 : BitVec 32 := Scalar.muli v454 c1_i32_865
  let v1137 : BitVec 32 := Scalar.addi c0_i32_866 v1136
  v1137.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  let v465 : BitVec 1 := Scalar.cmpi .eq v463 v2
  let v466 : BitVec 32 := Scalar.extui v465
  let c0_i32_370 : BitVec 32 := 0#32
  let v467 : BitVec 1 := Scalar.cmpi .ne v466 c0_i32_370
  v467

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  let v468 : BitVec 1 := Scalar.cmpi .ne v463 v2
  let v469 : BitVec 32 := Scalar.extui v468
  let c0_i32_371 : BitVec 32 := 0#32
  let v470 : BitVec 1 := Scalar.cmpi .ne v469 c0_i32_371
  v470

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  let v1132 : Index := Scalar.indexCast v463
  let c0_863 : Index := 0#32
  let c0_864 : Index := 0#32
  ![v1132.toNat, 0, 0]
def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  ![v463.toNat]
def k0_off86 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  let c0_i32_869 : BitVec 32 := 0#32
  let c0_i32_870 : BitVec 32 := 0#32
  ![v463.toNat, 0, 0]
def k0_dev29 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_368 : BitVec 32 := 4#32
  let v462 : BitVec 32 := Scalar.muli v412 c4_i32_368
  let c1_i32_369 : BitVec 32 := 1#32
  let v463 : BitVec 32 := Scalar.addi v462 c1_i32_369
  let c1_i32_865 : BitVec 32 := 1#32
  let v1136 : BitVec 32 := Scalar.muli v463 c1_i32_865
  let v1137 : BitVec 32 := Scalar.addi c0_i32_866 v1136
  v1137.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  let v474 : BitVec 1 := Scalar.cmpi .eq v472 v2
  let v475 : BitVec 32 := Scalar.extui v474
  let c0_i32_374 : BitVec 32 := 0#32
  let v476 : BitVec 1 := Scalar.cmpi .ne v475 c0_i32_374
  v476

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  let v477 : BitVec 1 := Scalar.cmpi .ne v472 v2
  let v478 : BitVec 32 := Scalar.extui v477
  let c0_i32_375 : BitVec 32 := 0#32
  let v479 : BitVec 1 := Scalar.cmpi .ne v478 c0_i32_375
  v479

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  let v1132 : Index := Scalar.indexCast v472
  let c0_863 : Index := 0#32
  let c0_864 : Index := 0#32
  ![v1132.toNat, 0, 0]
def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  ![v472.toNat]
def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  let c0_i32_869 : BitVec 32 := 0#32
  let c0_i32_870 : BitVec 32 := 0#32
  ![v472.toNat, 0, 0]
def k0_dev30 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_372 : BitVec 32 := 4#32
  let v471 : BitVec 32 := Scalar.muli v412 c4_i32_372
  let c2_i32_373 : BitVec 32 := 2#32
  let v472 : BitVec 32 := Scalar.addi v471 c2_i32_373
  let c1_i32_865 : BitVec 32 := 1#32
  let v1136 : BitVec 32 := Scalar.muli v472 c1_i32_865
  let v1137 : BitVec 32 := Scalar.addi c0_i32_866 v1136
  v1137.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  let v483 : BitVec 1 := Scalar.cmpi .eq v481 v2
  let v484 : BitVec 32 := Scalar.extui v483
  let c0_i32_378 : BitVec 32 := 0#32
  let v485 : BitVec 1 := Scalar.cmpi .ne v484 c0_i32_378
  v485

def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1132 : Index := Scalar.indexCast v2
  let c0_863 : Index := 0#32
  let c0_864 : Index := 0#32
  ![v1132.toNat, 0, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  let v486 : BitVec 1 := Scalar.cmpi .ne v481 v2
  let v487 : BitVec 32 := Scalar.extui v486
  let c0_i32_379 : BitVec 32 := 0#32
  let v488 : BitVec 1 := Scalar.cmpi .ne v487 c0_i32_379
  v488

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  let v1132 : Index := Scalar.indexCast v481
  let c0_863 : Index := 0#32
  let c0_864 : Index := 0#32
  ![v1132.toNat, 0, 0]
def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  ![v481.toNat]
def k0_off98 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_867 : BitVec 32 := 0#32
  let c0_i32_868 : BitVec 32 := 0#32
  ![v2.toNat, 0, 0]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  let c0_i32_869 : BitVec 32 := 0#32
  let c0_i32_870 : BitVec 32 := 0#32
  ![v481.toNat, 0, 0]
def k0_dev31 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_326 : BitVec 32 := 1#32
  let v410 : BitVec 32 := Scalar.addi v3 c1_i32_326
  let c3_i32_327 : BitVec 32 := 3#32
  let v411 : BitVec 32 := Scalar.addi v410 c3_i32_327
  let c4_i32_328 : BitVec 32 := 4#32
  let v412 : BitVec 32 := Scalar.remsi v411 c4_i32_328
  let c4_i32_376 : BitVec 32 := 4#32
  let v480 : BitVec 32 := Scalar.muli v412 c4_i32_376
  let c3_i32_377 : BitVec 32 := 3#32
  let v481 : BitVec 32 := Scalar.addi v480 c3_i32_377
  let c1_i32_865 : BitVec 32 := 1#32
  let v1136 : BitVec 32 := Scalar.muli v481 c1_i32_865
  let v1137 : BitVec 32 := Scalar.addi c0_i32_866 v1136
  v1137.toNat
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v494 : Index := Scalar.indexCast v2
  let c0_384 : Index := 0#32
  let c0_385 : Index := 0#32
  ![v494.toNat, 0, 0]
def k0_off102 (d0 : Dev nD) (c1_i32_386 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v498 : BitVec 32 := Scalar.addi v2 c1_i32_386
  let c16_i32_387 : BitVec 32 := 16#32
  let v499 : BitVec 32 := Scalar.remsi v498 c16_i32_387
  ![v499.toNat]
def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_390 : BitVec 32 := 0#32
  let c0_i32_391 : BitVec 32 := 0#32
  ![v2.toNat, 0, 0]
def k0_dev32 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_386 : BitVec 32 := 1#32
  let v498 : BitVec 32 := Scalar.addi v2 c1_i32_386
  let c16_i32_387 : BitVec 32 := 16#32
  let v499 : BitVec 32 := Scalar.remsi v498 c16_i32_387
  let c1_i32_388 : BitVec 32 := 1#32
  let v500 : BitVec 32 := Scalar.muli v499 c1_i32_388
  let v501 : BitVec 32 := Scalar.addi c0_i32_389 v500
  v501.toNat
def k0_dev33 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_392 : BitVec 32 := 2#32
  let v508 : BitVec 32 := Scalar.addi v2 c2_i32_392
  let c16_i32_393 : BitVec 32 := 16#32
  let v509 : BitVec 32 := Scalar.remsi v508 c16_i32_393
  let c1_i32_394 : BitVec 32 := 1#32
  let v510 : BitVec 32 := Scalar.muli v509 c1_i32_394
  let v511 : BitVec 32 := Scalar.addi c0_i32_395 v510
  v511.toNat
def k0_dev34 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_398 : BitVec 32 := 3#32
  let v518 : BitVec 32 := Scalar.addi v2 c3_i32_398
  let c16_i32_399 : BitVec 32 := 16#32
  let v519 : BitVec 32 := Scalar.remsi v518 c16_i32_399
  let c1_i32_400 : BitVec 32 := 1#32
  let v520 : BitVec 32 := Scalar.muli v519 c1_i32_400
  let v521 : BitVec 32 := Scalar.addi c0_i32_401 v520
  v521.toNat
def k0_dev35 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_404 : BitVec 32 := 4#32
  let v528 : BitVec 32 := Scalar.addi v2 c4_i32_404
  let c16_i32_405 : BitVec 32 := 16#32
  let v529 : BitVec 32 := Scalar.remsi v528 c16_i32_405
  let c1_i32_406 : BitVec 32 := 1#32
  let v530 : BitVec 32 := Scalar.muli v529 c1_i32_406
  let v531 : BitVec 32 := Scalar.addi c0_i32_407 v530
  v531.toNat
def k0_dev36 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_410 : BitVec 32 := 5#32
  let v538 : BitVec 32 := Scalar.addi v2 c5_i32_410
  let c16_i32_411 : BitVec 32 := 16#32
  let v539 : BitVec 32 := Scalar.remsi v538 c16_i32_411
  let c1_i32_412 : BitVec 32 := 1#32
  let v540 : BitVec 32 := Scalar.muli v539 c1_i32_412
  let v541 : BitVec 32 := Scalar.addi c0_i32_413 v540
  v541.toNat
def k0_dev37 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_416 : BitVec 32 := 6#32
  let v548 : BitVec 32 := Scalar.addi v2 c6_i32_416
  let c16_i32_417 : BitVec 32 := 16#32
  let v549 : BitVec 32 := Scalar.remsi v548 c16_i32_417
  let c1_i32_418 : BitVec 32 := 1#32
  let v550 : BitVec 32 := Scalar.muli v549 c1_i32_418
  let v551 : BitVec 32 := Scalar.addi c0_i32_419 v550
  v551.toNat
def k0_dev38 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_422 : BitVec 32 := 7#32
  let v558 : BitVec 32 := Scalar.addi v2 c7_i32_422
  let c16_i32_423 : BitVec 32 := 16#32
  let v559 : BitVec 32 := Scalar.remsi v558 c16_i32_423
  let c1_i32_424 : BitVec 32 := 1#32
  let v560 : BitVec 32 := Scalar.muli v559 c1_i32_424
  let v561 : BitVec 32 := Scalar.addi c0_i32_425 v560
  v561.toNat
def k0_dev39 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_428 : BitVec 32 := 8#32
  let v568 : BitVec 32 := Scalar.addi v2 c8_i32_428
  let c16_i32_429 : BitVec 32 := 16#32
  let v569 : BitVec 32 := Scalar.remsi v568 c16_i32_429
  let c1_i32_430 : BitVec 32 := 1#32
  let v570 : BitVec 32 := Scalar.muli v569 c1_i32_430
  let v571 : BitVec 32 := Scalar.addi c0_i32_431 v570
  v571.toNat
def k0_dev40 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_434 : BitVec 32 := 9#32
  let v578 : BitVec 32 := Scalar.addi v2 c9_i32_434
  let c16_i32_435 : BitVec 32 := 16#32
  let v579 : BitVec 32 := Scalar.remsi v578 c16_i32_435
  let c1_i32_436 : BitVec 32 := 1#32
  let v580 : BitVec 32 := Scalar.muli v579 c1_i32_436
  let v581 : BitVec 32 := Scalar.addi c0_i32_437 v580
  v581.toNat
def k0_dev41 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_440 : BitVec 32 := 10#32
  let v588 : BitVec 32 := Scalar.addi v2 c10_i32_440
  let c16_i32_441 : BitVec 32 := 16#32
  let v589 : BitVec 32 := Scalar.remsi v588 c16_i32_441
  let c1_i32_442 : BitVec 32 := 1#32
  let v590 : BitVec 32 := Scalar.muli v589 c1_i32_442
  let v591 : BitVec 32 := Scalar.addi c0_i32_443 v590
  v591.toNat
def k0_dev42 (d0 : Dev nD) : Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_446 : BitVec 32 := 11#32
  let v598 : BitVec 32 := Scalar.addi v2 c11_i32_446
  let c16_i32_447 : BitVec 32 := 16#32
  let v599 : BitVec 32 := Scalar.remsi v598 c16_i32_447
  let c1_i32_448 : BitVec 32 := 1#32
  let v600 : BitVec 32 := Scalar.muli v599 c1_i32_448
  let v601 : BitVec 32 := Scalar.addi c0_i32_449 v600
  v601.toNat
def k0_dev43 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_452 : BitVec 32 := 12#32
  let v608 : BitVec 32 := Scalar.addi v2 c12_i32_452
  let c16_i32_453 : BitVec 32 := 16#32
  let v609 : BitVec 32 := Scalar.remsi v608 c16_i32_453
  let c1_i32_454 : BitVec 32 := 1#32
  let v610 : BitVec 32 := Scalar.muli v609 c1_i32_454
  let v611 : BitVec 32 := Scalar.addi c0_i32_455 v610
  v611.toNat
def k0_dev44 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_458 : BitVec 32 := 13#32
  let v618 : BitVec 32 := Scalar.addi v2 c13_i32_458
  let c16_i32_459 : BitVec 32 := 16#32
  let v619 : BitVec 32 := Scalar.remsi v618 c16_i32_459
  let c1_i32_460 : BitVec 32 := 1#32
  let v620 : BitVec 32 := Scalar.muli v619 c1_i32_460
  let v621 : BitVec 32 := Scalar.addi c0_i32_461 v620
  v621.toNat
def k0_dev45 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_464 : BitVec 32 := 14#32
  let v628 : BitVec 32 := Scalar.addi v2 c14_i32_464
  let c16_i32_465 : BitVec 32 := 16#32
  let v629 : BitVec 32 := Scalar.remsi v628 c16_i32_465
  let c1_i32_466 : BitVec 32 := 1#32
  let v630 : BitVec 32 := Scalar.muli v629 c1_i32_466
  let v631 : BitVec 32 := Scalar.addi c0_i32_467 v630
  v631.toNat
def k0_dev46 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_470 : BitVec 32 := 15#32
  let v638 : BitVec 32 := Scalar.addi v2 c15_i32_470
  let c16_i32_471 : BitVec 32 := 16#32
  let v639 : BitVec 32 := Scalar.remsi v638 c16_i32_471
  let c1_i32_472 : BitVec 32 := 1#32
  let v640 : BitVec 32 := Scalar.muli v639 c1_i32_472
  let v641 : BitVec 32 := Scalar.addi c0_i32_473 v640
  v641.toNat
def k0_off105 (d0 : Dev nD) (c1_i32_477 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_476 : BitVec 32 := 16#32
  let v648 : BitVec 32 := Scalar.addi v2 c16_i32_476
  let v649 : BitVec 32 := Scalar.subi v648 c1_i32_477
  let c16_i32_478 : BitVec 32 := 16#32
  let v650 : BitVec 32 := Scalar.remsi v649 c16_i32_478
  ![v650.toNat]
def k0_off106 (d0 : Dev nD) (c1_i32_477 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_476 : BitVec 32 := 16#32
  let v648 : BitVec 32 := Scalar.addi v2 c16_i32_476
  let v649 : BitVec 32 := Scalar.subi v648 c1_i32_477
  let c16_i32_478 : BitVec 32 := 16#32
  let v650 : BitVec 32 := Scalar.remsi v649 c16_i32_478
  let c0_i32_481 : BitVec 32 := 0#32
  let c0_i32_482 : BitVec 32 := 0#32
  ![v650.toNat, 0, 0]
def k0_off107 (d0 : Dev nD) (c1_i32_477 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_476 : BitVec 32 := 16#32
  let v648 : BitVec 32 := Scalar.addi v2 c16_i32_476
  let v649 : BitVec 32 := Scalar.subi v648 c1_i32_477
  let c16_i32_478 : BitVec 32 := 16#32
  let v650 : BitVec 32 := Scalar.remsi v649 c16_i32_478
  let c0_i32_487 : BitVec 32 := 0#32
  let c0_i32_488 : BitVec 32 := 0#32
  ![v650.toNat, 0, 0]
def k0_off108 (d0 : Dev nD) (c1_i32_701 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v933 : BitVec 32 := Scalar.addi v2 c1_i32_701
  let c16_i32_702 : BitVec 32 := 16#32
  let v934 : BitVec 32 := Scalar.remsi v933 c16_i32_702
  let c0_i32_704 : BitVec 32 := 0#32
  let c0_i32_705 : BitVec 32 := 0#32
  ![v934.toNat, 0, 0]
def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_706 : BitVec 32 := 0#32
  let c0_i32_707 : BitVec 32 := 0#32
  ![v2.toNat, 0, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 7
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Cells.lean ====
/-
# The devices, buffers, semaphores and contents of the exchange

Sixteen devices. Device `c` multiplies its rows of `x` by the weight matrix in four column groups, starting at the
group after its own, and sends each of the sixteen column pieces to the device that keeps it. This module names the
peers, the slots of the send and receive buffers, the semaphore cells, and what every slot holds once it is written.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

/-! ## The resource algebra: the pipeline's share and the exchange's, whose duties are named by devices -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Peers and orders -/

/-- The device that keeps the `q`-th piece device `c` produces: group `c/4 + 1 + q/4` of the columns, member `q % 4`. -/
def dq (c : Dev nD) (q : ℕ) : Dev nD := ⟨((c.val / 4 + 1 + q / 4) % 4) * 4 + q % 4, by change _ < 16; omega⟩
/-- When device `c` produces the piece device `d` keeps: the inverse of `dq c`. -/
def rk (c d : Dev nD) : ℕ := ((d.val / 4 + 3 - c.val / 4) % 4) * 4 + d.val % 4
/-- The device `j` places after `c`, and the one `j` places before it. -/
def up (c : Dev nD) (j : ℕ) : Dev nD := ⟨(c.val + j) % 16, by change _ < 16; omega⟩
def dn (c : Dev nD) (j : ℕ) : Dev nD := ⟨(c.val + 16 - j % 16) % 16, by change _ < 16; omega⟩
/-- How many places `d` comes after `c`. -/
def ofs (c d : Dev nD) : ℕ := (d.val + 16 - c.val) % 16
/-- The first column of the group device `c` computes in its `i`-th step. -/
def wcol (c : Dev nD) (i : ℕ) : ℕ := ((c.val / 4 + 1 + i) % 4) * 512

theorem rk_dq (c : Dev nD) (q : ℕ) (hq : q < 16) : rk c (dq c q) = q := by
  have h := c.isLt; change c.val < 16 at h
  simp only [rk, dq]; omega
theorem dq_rk (c d : Dev nD) : dq c (rk c d) = d := by
  have h := c.isLt; change c.val < 16 at h
  have h' := d.isLt; change d.val < 16 at h'
  apply Fin.ext; simp only [rk, dq]; omega
theorem rk_lt (c d : Dev nD) : rk c d < 16 := by simp only [rk]; omega
theorem ofs_up (c : Dev nD) (j : ℕ) (hj : j < 16) : ofs c (up c j) = j := by
  have h := c.isLt; change c.val < 16 at h
  simp only [ofs, up]; omega
theorem up_ofs (c d : Dev nD) : up c (ofs c d) = d := by
  have h := c.isLt; change c.val < 16 at h
  have h' := d.isLt; change d.val < 16 at h'
  apply Fin.ext; simp only [ofs, up]; omega
theorem ofs_dn (c : Dev nD) (j : ℕ) (hj : j < 16) : ofs (dn c j) c = j := by
  have h := c.isLt; change c.val < 16 at h
  simp only [ofs, dn]; omega
theorem ofs_inj_left (c d d' : Dev nD) (h : ofs d c = ofs d' c) : d = d' := by
  have h1 := c.isLt; change c.val < 16 at h1
  have h2 := d.isLt; change d.val < 16 at h2
  have h3 := d'.isLt; change d'.val < 16 at h3
  apply Fin.ext; simp only [ofs] at h; omega
theorem ofs_lt (c d : Dev nD) : ofs c d < 16 := by simp only [ofs]; omega
theorem ofs_self (c : Dev nD) : ofs c c = 0 := by
  have h1 := c.isLt; change c.val < 16 at h1
  simp only [ofs]; omega
theorem ofs_pos (c d : Dev nD) (h : d ≠ c) : 0 < ofs c d := by
  have h1 := c.isLt; change c.val < 16 at h1
  have h2 := d.isLt; change d.val < 16 at h2
  have : d.val ≠ c.val := fun e => h (Fin.ext e)
  simp only [ofs]; omega
theorem up_ne (c : Dev nD) (j : ℕ) (h0 : 0 < j) (hj : j < 16) : up c j ≠ c := fun e => by
  have := ofs_up c j hj; rw [e, ofs_self] at this; omega
theorem dn_ne (c : Dev nD) (j : ℕ) (h0 : 0 < j) (hj : j < 16) : dn c j ≠ c := fun e => by
  have := ofs_dn c j hj; rw [e, ofs_self] at this; omega

/-! ## The memrefs -/

abbrev xM : Memref sig .tc .vmem S256x4096 .f32 := Memref.whole cc0_stg0_0
abbrev aM : Memref sig .tc .hbm S4096x2048 .f32 := Memref.whole main_arg1
abbrev oM : Memref sig .tc .vmem S4096x128 .f32 := Memref.whole cc0_stg1_0
abbrev wM : Memref sig .tc .vmem S2x4096x512 .f32 := Memref.whole cc0_scratch0
abbrev sM : Memref sig .tc .vmem S16x256x128 .bf16 := Memref.whole cc0_scratch1
abbrev mM : Memref sig .tc .vmem S8x128 .f32 := Memref.whole cc0_scratch2
abbrev rM : Memref sig .tc .vmem S16x256x128 .bf16 := Memref.whole cc0_scratch3
abbrev zM : Memref sig .tc .vmem S16x8x128 .f32 := Memref.whole cc0_scratch4

theorem slot_inb (d : Dev nD) : ∀ a, (![d.val, 0, 0] : Fin 3 → ℕ) a + S1x256x128.size a ≤ S16x256x128.size a := by
  have h := d.isLt; change d.val < 16 at h
  intro a; fin_cases a
  · show d.val + 1 ≤ 16; omega
  · exact Nat.le_refl 256
  · exact Nat.le_refl 128
theorem zslot_inb (d : Dev nD) : ∀ a, (![d.val, 0, 0] : Fin 3 → ℕ) a + S1x8x128.size a ≤ S16x8x128.size a := by
  have h := d.isLt; change d.val < 16 at h
  intro a; fin_cases a
  · show d.val + 1 ≤ 16; omega
  · exact Nat.le_refl 8
  · exact Nat.le_refl 128
theorem wslot_inb (k : Fin 8) : ∀ a, (![k.val / 4, (k.val % 4) * 1024, 0] : Fin 3 → ℕ) a + S1x1024x512.size a ≤ S2x4096x512.size a := by
  have h := k.isLt
  intro a; fin_cases a
  · show k.val / 4 + 1 ≤ 2; omega
  · show (k.val % 4) * 1024 + 1024 ≤ 4096; omega
  · exact Nat.le_refl 512
theorem wtile_inb (c : Dev nD) (N : ℕ) : ∀ a, (![(N % 4) * 1024, wcol c (N / 4)] : Fin 2 → ℕ) a + S1024x512.size a ≤ S4096x2048.size a := by
  intro a; fin_cases a
  · show (N % 4) * 1024 + 1024 ≤ 4096; omega
  · show wcol c (N / 4) + 512 ≤ 2048; unfold wcol; omega

/-- Slot `d` of the send buffer, of the receive buffer, and of the received maxima. -/
abbrev rSlot (d : Dev nD) : Rect S16x256x128 := Rect.unit (s := S16x256x128) ![d.val, 0, 0] S1x256x128.size (slot_inb d)
abbrev rZ (d : Dev nD) : Rect S16x8x128 := Rect.unit (s := S16x8x128) ![d.val, 0, 0] S1x8x128.size (zslot_inb d)
abbrev rW (k : Fin 8) : Rect S2x4096x512 := Rect.unit (s := S2x4096x512) ![k.val / 4, (k.val % 4) * 1024, 0] S1x1024x512.size (wslot_inb k)
abbrev rA (c : Dev nD) (N : ℕ) : Rect S4096x2048 := Rect.unit (s := S4096x2048) ![(N % 4) * 1024, wcol c (N / 4)] S1024x512.size (wtile_inb c N)
abbrev sSl (d : Dev nD) : Memref sig .tc .vmem S256x128 .bf16 := (sM.slice (rSlot d) (fun _ => rfl)).squeeze S256x128 squeezes_S1x256x128_S256x128
abbrev rSl (d : Dev nD) : Memref sig .tc .vmem S256x128 .bf16 := (rM.slice (rSlot d) (fun _ => rfl)).squeeze S256x128 squeezes_S1x256x128_S256x128
abbrev zSl (d : Dev nD) : Memref sig .tc .vmem S8x128 .f32 := (zM.slice (rZ d) (fun _ => rfl)).squeeze S8x128 squeezes_S1x8x128_S8x128
/-- Quarter `k` of the weight buffer (slot `k / 4`, rows from `1024 * (k % 4)`), and the tile of the weights the `N`-th copy reads. -/
abbrev wSl (k : Fin 8) : Memref sig .tc .vmem S1024x512 .f32 := (wM.slice (rW k) (fun _ => rfl)).squeeze S1024x512 squeezes_S1x1024x512_S1024x512
abbrev aSl (c : Dev nD) (N : ℕ) : Memref sig .tc .hbm S1024x512 .f32 := aM.slice (rA c N) (fun _ => rfl)

/-! ## The semaphore cells -/

abbrev barS : Sem sig := (SemArray.scalar (sig.barrier 0 rfl) : Sems sig S_).sem
/-- The semaphore of a weight quarter, and the four families of sixteen. -/
def qW (k : Fin 8) : DmaSem sig := ⟨2 + k.val, by change _ < 74; omega⟩
def qS (d : Dev nD) : DmaSem sig := ⟨10 + d.val, by have h := d.isLt; change d.val < 16 at h; change _ < 74; omega⟩
def qR (d : Dev nD) : DmaSem sig := ⟨26 + d.val, by have h := d.isLt; change d.val < 16 at h; change _ < 74; omega⟩
def qMS (d : Dev nD) : DmaSem sig := ⟨42 + d.val, by have h := d.isLt; change d.val < 16 at h; change _ < 74; omega⟩
def qMR (d : Dev nD) : DmaSem sig := ⟨58 + d.val, by have h := d.isLt; change d.val < 16 at h; change _ < 74; omega⟩

abbrev bCell (c : Dev nD) : GSem nD τ sig := ((c : Thread nD τ), .reg barS)
abbrev dCell (c : Dev nD) (q : DmaSem sig) : GSem nD τ sig := ((c : Thread nD τ), .dma q)

theorem qS_eq (d : Dev nD) (inb) : ((cc0_scratch6.slice (Rect.unit (s := S16) ![d.val] S1.size inb)).squeeze S_ squeezes_S1_S_).sem = qS d := by
  revert inb; revert d; decide
theorem qR_eq (d : Dev nD) (inb) : ((cc0_scratch7.slice (Rect.unit (s := S16) ![d.val] S1.size inb)).squeeze S_ squeezes_S1_S_).sem = qR d := by
  revert inb; revert d; decide
theorem qMS_eq (d : Dev nD) (inb) : ((cc0_scratch8.slice (Rect.unit (s := S16) ![d.val] S1.size inb)).squeeze S_ squeezes_S1_S_).sem = qMS d := by
  revert inb; revert d; decide
theorem qMR_eq (d : Dev nD) (inb) : ((cc0_scratch9.slice (Rect.unit (s := S16) ![d.val] S1.size inb)).squeeze S_ squeezes_S1_S_).sem = qMR d := by
  revert inb; revert d; decide
theorem qW_eq (k : Fin 8) (inb) : ((cc0_scratch5.slice (Rect.unit (s := S8) ![k.val] S1.size inb)).squeeze S_ squeezes_S1_S_).sem = qW k := by
  revert inb; revert k; decide

/-- The units a transfer into a slot, a received maximum and a weight quarter adds. -/
def NP : ℕ := (rSl (0 : Fin 16)).view.dmaCredit
def NZ : ℕ := (zSl (0 : Fin 16)).view.dmaCredit
def NW : ℕ := (wSl (0 : Fin 8)).view.dmaCredit
theorem NP_pos : 0 < NP := View.dmaCredit_pos _ (by decide)
theorem NZ_pos : 0 < NZ := View.dmaCredit_pos _ (by decide)
theorem NW_pos : 0 < NW := View.dmaCredit_pos _ (by decide)

end Cert.Exchange
-- ==== Proof.Sched.lean ====
/-
# What the buffers hold, and the rounds of the exchange
-/
module

public import proofs.«01_k».proof.Proof.Cells

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

abbrev lX (c : Dev nD) : Loc nD τ sig := (c : Thread nD τ).loc cc0_stg0_0
abbrev lO (c : Dev nD) : Loc nD τ sig := (c : Thread nD τ).loc cc0_stg1_0
abbrev lA (c : Dev nD) : Loc nD τ sig := (c : Thread nD τ).loc main_arg1
abbrev lW (c : Dev nD) : Loc nD τ sig := (c : Thread nD τ).loc cc0_scratch0
abbrev lS (c : Dev nD) : Loc nD τ sig := (c : Thread nD τ).loc cc0_scratch1
abbrev lM (c : Dev nD) : Loc nD τ sig := (c : Thread nD τ).loc cc0_scratch2
abbrev lR (c : Dev nD) : Loc nD τ sig := (c : Thread nD τ).loc cc0_scratch3
abbrev lZ (c : Dev nD) : Loc nD τ sig := (c : Thread nD τ).loc cc0_scratch4

/-- Device `c`'s rows of `x`, as staged before the body runs. -/
def XV (c : Dev nD) : Vec F S256x4096 .f32 :=
  (win0_0.blk (0 : Fin 1)).view.read (Elt F) ((s₀ m ρ).mem ((c : Thread nD τ).loc main_arg0))

theorem wcol_add_lt (c : Dev nD) (i : ℕ) (b : Fin 512) : wcol c i + b.val < 2048 := by
  have := b.isLt; unfold wcol; omega

/-- The weight buffer once group step `i`'s quarters have landed: columns `wcol c i ..` of the weights, in either slot. -/
def WB (c : Dev nD) (i : ℕ) : Buf (Elt F) (lW c) :=
  fun idx => m (lA c) (ix2 (n0 := 4096) (n1 := 2048) (idx 1) ⟨wcol c i + (idx 2).val, wcol_add_lt c i (idx 2)⟩)
/-- What the load of a whole slot of it reads. -/
def WV (c : Dev nD) (i : ℕ) : Vec F S1x4096x512 .f32 :=
  fun idx => m (lA c) (ix2 (n0 := 4096) (n1 := 2048) (idx 1) ⟨wcol c i + (idx 2).val, wcol_add_lt c i (idx 2)⟩)

/-- The bf16 columns of the product device `c` keeps after its `i`-th group step. -/
def CB (c : Dev nD) (i : ℕ) : FVec F S256x512 .bf16 := k0_pay5 (k0_pay2 (XV m ρ c) (WV m c i))
/-- The running maximum after the `i`-th group step. -/
def MV (c : Dev nD) : ℕ → F .f32
  | 0 => k0_pay4 (k0_pay3 (XV m ρ c) (WV m c 0))
  | i + 1 => k0_pay19 (MV c i) (XV m ρ c) (WV m c (i + 1))
/-- The `t`-th of the four 128-column pieces of a group. -/
def PP (t : ℕ) (v : FVec F S256x512 .bf16) : FVec F S1x256x128 .bf16 :=
  match t with
  | 0 => k0_pay7 v
  | 1 => k0_pay10 v
  | 2 => k0_pay13 v
  | _ => k0_pay16 v
/-- The piece device `c` sends to device `d`. -/
def PV (c d : Dev nD) : FVec F S1x256x128 .bf16 := PP (d.val % 4) (CB m ρ c (rk c d / 4))
/-- The send buffer once every piece is stored, slot by receiver. -/
def SV (c : Dev nD) : Buf (Elt F) (lS c) := fun idx => PV m ρ c (idx 0) (ix3 (n0 := 1) (n1 := 256) (n2 := 128) 0 (idx 1) (idx 2))
/-- The receive buffer once every piece has landed, slot by sender. -/
def RV (c : Dev nD) : Buf (Elt F) (lR c) := fun idx => PV m ρ (idx 0) c (ix3 (n0 := 1) (n1 := 256) (n2 := 128) 0 (idx 1) (idx 2))
/-- Device `c`'s maximum, spread over its 8 x 128 buffer. -/
def MX (c : Dev nD) : Buf (Elt F) (lM c) := k0_pay64 (MV m ρ c 3)
/-- The received maxima, slot by sender. -/
def ZV (c : Dev nD) : Buf (Elt F) (lZ c) :=
  fun idx => k0_pay65 (k0_pay64 (MV m ρ (idx 0) 3)) (ix3 (n0 := 1) (n1 := 8) (n2 := 128) 0 (idx 1) (idx 2))
/-- Device `c`'s result. -/
def OV (c : Dev nD) : Vec F S4096x128 .f32 := k0_pay1 (k0_pay66 (ZV m ρ c)) (k0_pay67 (ZV m ρ c)) (RV m ρ c)

/-! ## Shares: one of the weights per weight semaphore, one of the maximum buffer per receiver -/

/-- What is left of the full share after `n` have been split off, and the `n`-th one split off. -/
def shR : ℕ → PosShare TreeShare
  | 0 => fullShare
  | n + 1 => (shR n).right
def shA (n : ℕ) : PosShare TreeShare := (shR n).left

/-! ## The pieces of memory that move -/

def sPt (c d : Dev nD) (f : Buf (Elt F) (lS c)) : sProp 𝕄 := lS c ↦[(rSlot d).set]{fullShare} f
def rPt (c d : Dev nD) (f : Buf (Elt F) (lR c)) : sProp 𝕄 := lR c ↦[(rSlot d).set]{fullShare} f
def zPt (c d : Dev nD) (f : Buf (Elt F) (lZ c)) : sProp 𝕄 := lZ c ↦[(rZ d).set]{fullShare} f
def wPt (c : Dev nD) (k : Fin 8) (f : Buf (Elt F) (lW c)) : sProp 𝕄 := lW c ↦[(rW k).set]{fullShare} f
def aPt (c : Dev nD) (k : Fin 8) (N : ℕ) : sProp 𝕄 := lA c ↦[(rA c N).set]{shA k} m (lA c)
/-- The rest of the share while a tile of it is being copied. -/
def aPt' (c : Dev nD) (k : Fin 8) (N : ℕ) : sProp 𝕄 := lA c ↦[Finset.univ \ (rA c N).set]{shA k} m (lA c)
def mPt (c d : Dev nD) : sProp 𝕄 := lM c ↦[Finset.univ]{shA d.val} MX m ρ c

omit [FloatOps F] in
instance sPt_st (c d : Dev nD) (f) : BI.Storable (upEmb : UEmb _ 𝕄) (sPt (F := F) c d f) := by unfold sPt; infer_instance
omit [FloatOps F] in
instance rPt_st (c d : Dev nD) (f) : BI.Storable (upEmb : UEmb _ 𝕄) (rPt (F := F) c d f) := by unfold rPt; infer_instance
omit [FloatOps F] in
instance zPt_st (c d : Dev nD) (f) : BI.Storable (upEmb : UEmb _ 𝕄) (zPt (F := F) c d f) := by unfold zPt; infer_instance
omit [FloatOps F] in
instance wPt_st (c : Dev nD) (k) (f) : BI.Storable (upEmb : UEmb _ 𝕄) (wPt (F := F) c k f) := by unfold wPt; infer_instance
omit [FloatOps F] in
instance aPt_st (c : Dev nD) (k N) : BI.Storable (upEmb : UEmb _ 𝕄) (aPt (F := F) m c k N) := by unfold aPt; infer_instance
instance mPt_st (c d : Dev nD) : BI.Storable (upEmb : UEmb _ 𝕄) (mPt (F := F) m ρ c d) := by unfold mPt; infer_instance

/-- The device numbered `n` modulo 16. -/
def dOf (n : ℕ) : Dev nD := ⟨n % 16, Nat.mod_lt _ (by decide)⟩
def kOf (n : ℕ) : Fin 8 := ⟨n % 8, Nat.mod_lt _ (by decide)⟩

/-! ## The schedule -/

/-- What a DMA semaphore's round delivers to its owner `c`: a weight quarter with the tile it was read from, a send slot
    back, a received piece, the share of the maximum back, a received maximum. -/
def dmaPay (c : Dev nD) (q : ℕ) (r : ℕ) : sProp 𝕄 :=
  if q < 10 then iprop(wPt c (kOf (q + 6)) (WB m c ((kOf (q + 6)).val / 4 + 2 * r)) ∗ aPt m c (kOf (q + 6)) ((kOf (q + 6)).val + 8 * r))
  else if q < 26 then sPt c (dOf (q + 6)) (SV m ρ c)
  else if q < 42 then rPt c (dOf (q + 6)) (RV m ρ c)
  else if q < 58 then mPt m ρ c (dOf (q + 6))
  else zPt c (dOf (q + 6)) (ZV m ρ c)

/-- What device `p`'s signal hands device `c`: the slots of `p`'s receive buffers that `c` writes. -/
def barPay (c p : Dev nD) : sProp 𝕄 := iprop((∃ f, rPt p c f) ∗ (∃ f, zPt p c f))

omit [FloatOps F] in
instance barPay_st (c p : Dev nD) : BI.Storable (upEmb : UEmb _ 𝕄) (barPay (F := F) c p) := by unfold barPay; infer_instance
instance dmaPay_st (c : Dev nD) (q r : ℕ) : BI.Storable (upEmb : UEmb _ 𝕄) (dmaPay (F := F) m ρ c q r) := by
  unfold dmaPay; (repeat' split) <;> infer_instance

/-- A barrier semaphore takes one unit from every other device; a weight semaphore two transfers in turn; each of the
    other semaphores one transfer, except the one that bears its owner's own number, which takes none. -/
def rd : Rounds.Schedule (GSem nD τ sig) (Fin 16) 𝕄 where
  duties g r := match g.2 with
    | .reg _ => if r = 0 then Finset.univ.erase g.1.1 else ∅
    | .dma q => if q.val < 10 then (if r < 2 then {0} else ∅) else if r = 0 ∧ dOf (q.val + 6) ≠ g.1.1 then {0} else ∅
  unitless _ := False
  amount g _ _ := match g.2 with
    | .reg _ => 1
    | .dma q => if q.val < 10 then NW else if q.val < 42 then NP else NZ
  payload g r d := match g.2 with
    | .reg _ => barPay g.1.1 d
    | .dma q => dmaPay m ρ g.1.1 q.val r
  amount_pos g r d _ := by
    rcases g with ⟨t, s | q⟩
    · exact Nat.one_pos
    · show 0 < (if q.val < 10 then NW else if q.val < 42 then NP else NZ)
      have := NW_pos; have := NP_pos; have := NZ_pos
      split
      · assumption
      · split <;> assumption

instance rd_st (g : GSem nD τ sig) (r : ℕ) (d : Fin 16) : BI.Storable (upEmb : UEmb _ 𝕄) ((rd (F := F) m ρ).payload g r d) := by
  rcases g with ⟨t, s | q⟩
  · show BI.Storable upEmb (barPay t.1 d); infer_instance
  · show BI.Storable upEmb (dmaPay m ρ t.1 q.val r); infer_instance

section Sched
variable (c d : Dev nD) (k : Fin 8) (r : ℕ)

theorem dOf_S : dOf ((qS d).val + 6) = d := by
  have h := d.isLt; change d.val < 16 at h
  apply Fin.ext; show (10 + d.val + 6) % 16 = d.val; omega
theorem dOf_R : dOf ((qR d).val + 6) = d := by
  have h := d.isLt; change d.val < 16 at h
  apply Fin.ext; show (26 + d.val + 6) % 16 = d.val; omega
theorem dOf_MS : dOf ((qMS d).val + 6) = d := by
  have h := d.isLt; change d.val < 16 at h
  apply Fin.ext; show (42 + d.val + 6) % 16 = d.val; omega
theorem dOf_MR : dOf ((qMR d).val + 6) = d := by
  have h := d.isLt; change d.val < 16 at h
  apply Fin.ext; show (58 + d.val + 6) % 16 = d.val; omega
theorem kOf_W : kOf ((qW k).val + 6) = k := by
  have h := k.isLt
  apply Fin.ext; show (2 + k.val + 6) % 8 = k.val; omega
theorem qW_lt : (qW k).val < 10 := by show 2 + k.val < 10; omega
theorem qS_rng : ¬ (qS d).val < 10 ∧ (qS d).val < 26 := by
  have h := d.isLt; change d.val < 16 at h
  show ¬ 10 + d.val < 10 ∧ 10 + d.val < 26; omega
theorem qR_rng : ¬ (qR d).val < 10 ∧ ¬ (qR d).val < 26 ∧ (qR d).val < 42 := by
  have h := d.isLt; change d.val < 16 at h
  show ¬ 26 + d.val < 10 ∧ ¬ 26 + d.val < 26 ∧ 26 + d.val < 42; omega
theorem qMS_rng : ¬ (qMS d).val < 10 ∧ ¬ (qMS d).val < 26 ∧ ¬ (qMS d).val < 42 ∧ (qMS d).val < 58 := by
  have h := d.isLt; change d.val < 16 at h
  show ¬ 42 + d.val < 10 ∧ ¬ 42 + d.val < 26 ∧ ¬ 42 + d.val < 42 ∧ 42 + d.val < 58; omega
theorem qMR_rng : ¬ (qMR d).val < 10 ∧ ¬ (qMR d).val < 26 ∧ ¬ (qMR d).val < 42 ∧ ¬ (qMR d).val < 58 := by
  have h := d.isLt; change d.val < 16 at h
  show ¬ 58 + d.val < 10 ∧ ¬ 58 + d.val < 26 ∧ ¬ 58 + d.val < 42 ∧ ¬ 58 + d.val < 58; omega

theorem duties_bar : (rd (F := F) m ρ).duties (bCell c) 0 = Finset.univ.erase c := rfl
theorem duties_bar_later (hr : 1 ≤ r) : (rd (F := F) m ρ).duties (bCell c) r = ∅ := if_neg (by omega)
theorem duties_W (hr : r < 2) : (rd (F := F) m ρ).duties (dCell c (qW k)) r = {0} := (if_pos (qW_lt k)).trans (if_pos hr)
theorem duties_W_later (hr : 2 ≤ r) : (rd (F := F) m ρ).duties (dCell c (qW k)) r = ∅ := (if_pos (qW_lt k)).trans (if_neg (by omega))
/-- One transfer arrives at a peer's semaphore, none at the owner's own. -/
theorem duties_peer (q : DmaSem sig) (hq : ¬ q.val < 10) (h : dOf (q.val + 6) ≠ c) : (rd (F := F) m ρ).duties (dCell c q) 0 = {0} :=
  (if_neg hq).trans (if_pos ⟨rfl, h⟩)
theorem duties_peer_later (q : DmaSem sig) (hq : ¬ q.val < 10) (hr : 1 ≤ r) : (rd (F := F) m ρ).duties (dCell c q) r = ∅ :=
  (if_neg hq).trans (if_neg fun h => by omega)
theorem duties_own (q : DmaSem sig) (hq : ¬ q.val < 10) (h : dOf (q.val + 6) = c) : (rd (F := F) m ρ).duties (dCell c q) r = ∅ :=
  (if_neg hq).trans (if_neg fun h' => h'.2 h)

theorem amount_bar (p : Fin 16) : (rd (F := F) m ρ).amount (bCell c) 0 p = 1 := rfl
theorem amount_W (p : Fin 16) : (rd (F := F) m ρ).amount (dCell c (qW k)) r p = NW := if_pos (qW_lt k)
theorem amount_S (p : Fin 16) : (rd (F := F) m ρ).amount (dCell c (qS d)) r p = NP :=
  (if_neg (qS_rng d).1).trans (if_pos (by have := (qS_rng d).2; omega))
theorem amount_R (p : Fin 16) : (rd (F := F) m ρ).amount (dCell c (qR d)) r p = NP :=
  (if_neg (qR_rng d).1).trans (if_pos (qR_rng d).2.2)
theorem amount_MS (p : Fin 16) : (rd (F := F) m ρ).amount (dCell c (qMS d)) r p = NZ :=
  (if_neg (qMS_rng d).1).trans (if_neg (qMS_rng d).2.2.1)
theorem amount_MR (p : Fin 16) : (rd (F := F) m ρ).amount (dCell c (qMR d)) r p = NZ :=
  (if_neg (qMR_rng d).1).trans (if_neg (qMR_rng d).2.2.1)

theorem expect_bar : (rd (F := F) m ρ).expect (bCell c) 0 = 15 := by
  unfold Schedule.expect Schedule.amountOf
  rw [duties_bar, Finset.sum_congr rfl fun p _ => amount_bar m ρ c p, Finset.sum_const, smul_eq_mul, mul_one, Finset.card_erase_of_mem (Finset.mem_univ _)]
  rfl
theorem expect_W (hr : r < 2) : (rd (F := F) m ρ).expect (dCell c (qW k)) r = NW := by
  unfold Schedule.expect Schedule.amountOf; rw [duties_W m ρ c k r hr, Finset.sum_singleton, amount_W]
theorem expect_S (h : d ≠ c) : (rd (F := F) m ρ).expect (dCell c (qS d)) 0 = NP := by
  unfold Schedule.expect Schedule.amountOf
  rw [duties_peer m ρ c (qS d) (qS_rng d).1 (by rw [dOf_S]; exact h), Finset.sum_singleton, amount_S]
theorem expect_R (h : d ≠ c) : (rd (F := F) m ρ).expect (dCell c (qR d)) 0 = NP := by
  unfold Schedule.expect Schedule.amountOf
  rw [duties_peer m ρ c (qR d) (qR_rng d).1 (by rw [dOf_R]; exact h), Finset.sum_singleton, amount_R]
theorem expect_MS (h : d ≠ c) : (rd (F := F) m ρ).expect (dCell c (qMS d)) 0 = NZ := by
  unfold Schedule.expect Schedule.amountOf
  rw [duties_peer m ρ c (qMS d) (qMS_rng d).1 (by rw [dOf_MS]; exact h), Finset.sum_singleton, amount_MS]
theorem expect_MR (h : d ≠ c) : (rd (F := F) m ρ).expect (dCell c (qMR d)) 0 = NZ := by
  unfold Schedule.expect Schedule.amountOf
  rw [duties_peer m ρ c (qMR d) (qMR_rng d).1 (by rw [dOf_MR]; exact h), Finset.sum_singleton, amount_MR]

theorem payload_bar (p : Fin 16) : (rd (F := F) m ρ).payload (bCell c) r p = barPay c p := rfl
theorem payload_W (p : Fin 16) : (rd (F := F) m ρ).payload (dCell c (qW k)) r p
    = iprop(wPt c k (WB m c (k.val / 4 + 2 * r)) ∗ aPt m c k (k.val + 8 * r)) := by
  show dmaPay m ρ c (qW k).val r = _
  unfold dmaPay; rw [if_pos (qW_lt k), kOf_W]
theorem payload_S (p : Fin 16) : (rd (F := F) m ρ).payload (dCell c (qS d)) r p = sPt c d (SV m ρ c) := by
  show dmaPay m ρ c (qS d).val r = _
  unfold dmaPay; rw [if_neg (qS_rng d).1, if_pos (qS_rng d).2, dOf_S]
theorem payload_R (p : Fin 16) : (rd (F := F) m ρ).payload (dCell c (qR d)) r p = rPt c d (RV m ρ c) := by
  show dmaPay m ρ c (qR d).val r = _
  unfold dmaPay; rw [if_neg (qR_rng d).1, if_neg (qR_rng d).2.1, if_pos (qR_rng d).2.2, dOf_R]
theorem payload_MS (p : Fin 16) : (rd (F := F) m ρ).payload (dCell c (qMS d)) r p = mPt m ρ c d := by
  show dmaPay m ρ c (qMS d).val r = _
  unfold dmaPay
  rw [if_neg (qMS_rng d).1, if_neg (qMS_rng d).2.1, if_neg (qMS_rng d).2.2.1, if_pos (qMS_rng d).2.2.2, dOf_MS]
theorem payload_MR (p : Fin 16) : (rd (F := F) m ρ).payload (dCell c (qMR d)) r p = zPt c d (ZV m ρ c) := by
  show dmaPay m ρ c (qMR d).val r = _
  unfold dmaPay
  rw [if_neg (qMR_rng d).1, if_neg (qMR_rng d).2.1, if_neg (qMR_rng d).2.2.1, if_neg (qMR_rng d).2.2.2, dOf_MR]

theorem rest_bar : bigSep ((rd (F := F) m ρ).duties (bCell c) 0 \ ∅) (fun p => (rd (F := F) m ρ).payload (bCell c) 0 p)
    = bigSep (Finset.univ.erase c) fun p => barPay c p := by
  rw [Finset.sdiff_empty, duties_bar]; rfl
theorem rest_one (g : GSem nD τ sig) (hd : (rd (F := F) m ρ).duties g r = {0}) :
    bigSep ((rd (F := F) m ρ).duties g r \ ∅) (fun p => (rd (F := F) m ρ).payload g r p) = (rd (F := F) m ρ).payload g r 0 := by
  rw [Finset.sdiff_empty, hd, bigSep_singleton]

end Sched

/-! ## What a device owes; the levels -/

/-- The credits still owed by device `c` once it has sent its first `j` signals, `n` pieces and `k` maxima. -/
def owe (c : Dev nD) (j n k : ℕ) : CellTallies nD τ sig Unit :=
  (∑ d ∈ Finset.univ.filter (fun d : Dev nD => d ≠ c ∧ j ≤ ofs c d), tallyAt (bCell d) () 1)
  + (∑ d ∈ Finset.univ.filter (fun d : Dev nD => d ≠ c ∧ n ≤ rk c d), tallyAt (dCell d (qR c)) () NP)
  + (∑ d ∈ Finset.univ.filter (fun d : Dev nD => d ≠ c ∧ k ≤ ofs c d), tallyAt (dCell d (qMR c)) () NZ)

theorem filter_step (c d : Dev nD) (f : Dev nD → ℕ) (j : ℕ) (hd : d ≠ c) (hj : f d = j) (hi : ∀ x y, f x = f y → x = y) :
    Finset.univ.filter (fun x : Dev nD => x ≠ c ∧ j ≤ f x) = insert d (Finset.univ.filter (fun x : Dev nD => x ≠ c ∧ j + 1 ≤ f x)) := by
  ext x
  simp only [Finset.mem_filter, Finset.mem_univ, true_and, Finset.mem_insert]
  constructor
  · rintro ⟨h1, h2⟩
    by_cases h : x = d
    · exact .inl h
    · refine .inr ⟨h1, ?_⟩
      have : f x ≠ f d := fun e => h (hi _ _ e)
      omega
  · rintro (rfl | ⟨h1, h2⟩)
    · exact ⟨hd, by omega⟩
    · exact ⟨h1, by omega⟩
theorem sum_step {M : Type} [AddCommMonoid M] (c d : Dev nD) (f : Dev nD → ℕ) (j : ℕ) (hd : d ≠ c) (hj : f d = j) (hi : ∀ x y, f x = f y → x = y)
    (T : Dev nD → M) : (∑ x ∈ Finset.univ.filter (fun x : Dev nD => x ≠ c ∧ j ≤ f x), T x)
      = (∑ x ∈ Finset.univ.filter (fun x : Dev nD => x ≠ c ∧ j + 1 ≤ f x), T x) + T d := by
  rw [filter_step c d f j hd hj hi, Finset.sum_insert (by simp [hj]), add_comm]
theorem sum_skip {M : Type} [AddCommMonoid M] (c : Dev nD) (f : Dev nD → ℕ) (j : ℕ) (hj : ∀ x, x ≠ c → f x ≠ j)
    (T : Dev nD → M) : (∑ x ∈ Finset.univ.filter (fun x : Dev nD => x ≠ c ∧ j ≤ f x), T x)
      = ∑ x ∈ Finset.univ.filter (fun x : Dev nD => x ≠ c ∧ j + 1 ≤ f x), T x := by
  refine Finset.sum_congr ?_ fun _ _ => rfl
  ext x
  simp only [Finset.mem_filter, Finset.mem_univ, true_and]
  constructor
  · rintro ⟨h1, h2⟩; have := hj x h1; exact ⟨h1, by omega⟩
  · rintro ⟨h1, h2⟩; exact ⟨h1, by omega⟩

theorem ofs_inj (c x y : Dev nD) (h : ofs c x = ofs c y) : x = y := by rw [← up_ofs c x, h, up_ofs]
theorem rk_inj (c x y : Dev nD) (h : rk c x = rk c y) : x = y := by rw [← dq_rk c x, h, dq_rk]

theorem owe_signal (c d : Dev nD) (j n k : ℕ) (hd : d ≠ c) (hj : ofs c d = j) :
    owe c j n k = owe c (j + 1) n k + tallyAt (bCell d) () 1 := by
  unfold owe; rw [sum_step c d (ofs c) j hd hj (ofs_inj c)]; ac_rfl
theorem owe_send (c d : Dev nD) (j n k : ℕ) (hd : d ≠ c) (hn : rk c d = n) :
    owe c j n k = owe c j (n + 1) k + tallyAt (dCell d (qR c)) () NP := by
  unfold owe; rw [sum_step c d (rk c) n hd hn (rk_inj c)]; ac_rfl
theorem owe_skip (c : Dev nD) (j n k : ℕ) (hn : rk c c = n) : owe c j n k = owe c j (n + 1) k := by
  unfold owe; rw [sum_skip c (rk c) n fun x hx e => hx (rk_inj c x c (e.trans hn.symm))]
theorem owe_max (c d : Dev nD) (j n k : ℕ) (hd : d ≠ c) (hk : ofs c d = k) :
    owe c j n k = owe c j n (k + 1) + tallyAt (dCell d (qMR c)) () NZ := by
  unfold owe; rw [sum_step c d (ofs c) k hd hk (ofs_inj c)]; ac_rfl
theorem owe_none (c : Dev nD) : owe c 16 16 16 = 0 := by
  unfold owe
  rw [Finset.filter_false_of_mem (s := Finset.univ) (p := fun d : Dev nD => d ≠ c ∧ 16 ≤ ofs c d) (fun d _ h => by have := ofs_lt c d; omega),
    Finset.filter_false_of_mem (s := Finset.univ) (p := fun d : Dev nD => d ≠ c ∧ 16 ≤ rk c d) (fun d _ h => by have := rk_lt c d; omega)]
  simp

def L (g : GSem nD τ sig) : Finset Unit := if g.1.2 = .tc then {()} else ∅
/-- The barrier at level 1, the cells a remote device pays at level 2, the rest at 0. -/
def lv (g : GSem nD τ sig) (_ : Unit) : ℕ := match g.2 with
  | .reg _ => 1
  | .dma q => if (26 ≤ q.val ∧ q.val < 42) ∨ 58 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_R (c d : Dev nD) : lv (dCell c (qR d)) () = 2 := if_pos (.inl ⟨by have := (qR_rng d).2.1; omega, (qR_rng d).2.2⟩)
theorem lv_MR (c d : Dev nD) : lv (dCell c (qMR d)) () = 2 := if_pos (.inr (by have := (qMR_rng d).2.2.2; omega))
theorem lv_bar (c : Dev nD) : lv (bCell c) () = 1 := rfl

theorem sum_tally_pos {S : Finset (Dev nD)} {C : Dev nD → GSem nD τ sig} {N : ℕ} {g : GSem nD τ sig} {u : Unit}
    (h : 0 < (∑ d ∈ S, (tallyAt (C d) () N : CellTallies nD τ sig Unit)) g u) : ∃ d ∈ S, g = C d := by
  rw [Finset.sum_apply, Finsupp.finset_sum_apply] at h
  obtain ⟨d, hd, h'⟩ := Finset.exists_ne_zero_of_sum_ne_zero (Nat.pos_iff_ne_zero.mp h)
  refine ⟨d, hd, ?_⟩
  by_contra hn
  rw [tallyAt_apply, if_neg fun e => hn e.1] at h'
  exact h' rfl

theorem owe_pos {c : Dev nD} {j n k : ℕ} {g : GSem nD τ sig} {u : Unit} (h : 0 < owe c j n k g u) :
    (j < 16 ∧ ∃ d, g = bCell d) ∨ (∃ d, g = dCell d (qR c)) ∨ ∃ d, g = dCell d (qMR c) := by
  unfold owe at h
  rw [Pi.add_apply, Finsupp.add_apply, Pi.add_apply, Finsupp.add_apply] at h
  rcases Nat.eq_zero_or_pos ((∑ d ∈ Finset.univ.filter (fun d : Dev nD => d ≠ c ∧ j ≤ ofs c d), (tallyAt (bCell d) () 1 : CellTallies nD τ sig Unit)) g u) with h1 | h1
  · rcases Nat.eq_zero_or_pos ((∑ d ∈ Finset.univ.filter (fun d : Dev nD => d ≠ c ∧ n ≤ rk c d), (tallyAt (dCell d (qR c)) () NP : CellTallies nD τ sig Unit)) g u) with h2 | h2
    · obtain ⟨d, -, e⟩ := sum_tally_pos (S := Finset.univ.filter (fun d : Dev nD => d ≠ c ∧ k ≤ ofs c d)) (C := fun d => dCell d (qMR c)) (N := NZ) (g := g) (u := u) (by omega)
      exact .inr (.inr ⟨d, e⟩)
    · obtain ⟨d, -, e⟩ := sum_tally_pos (C := fun d => dCell d (qR c)) h2
      exact .inr (.inl ⟨d, e⟩)
  · obtain ⟨d, hd, e⟩ := sum_tally_pos (C := fun d => bCell d) h1
    have := (Finset.mem_filter.mp hd).2.2
    have := ofs_lt c d
    exact .inl ⟨by omega, d, e⟩

omit [FloatOps F] in
/-- At a level-0 semaphore (staging, weights, send sides) a device may wait whatever it still owes. -/
theorem mayWait_low (c : Dev nD) (q : DmaSem sig) (hq : lv (dCell c q) () = 0) (j n k : ℕ) :
    (levAts L lv : sProp 𝕄) ⊢ MayWait (c : Thread nD τ) (.dma q) () (owe c j n k) := by
  refine MayOwe.of_cut (L := L) (lev := lv) 0 (fun p hp => by rw [Finset.mem_singleton.mp hp, L_tc]; exact Finset.mem_singleton_self _)
      (fun g u hg => by rcases owe_pos hg with ⟨_, d, rfl⟩ | ⟨d, rfl⟩ | ⟨d, rfl⟩ <;> exact Finset.mem_singleton_self _)
      (fun p hp => by rw [Finset.mem_singleton.mp hp]; exact hq.le)
      (fun g u hg => by
        rcases owe_pos hg with ⟨_, d, rfl⟩ | ⟨d, rfl⟩ | ⟨d, rfl⟩
        · rw [lv_bar]; decide
        · rw [lv_R]; decide
        · rw [lv_MR]; decide)
omit [FloatOps F] in
/-- At the barrier a device whose signals are all sent owes only level-2 credits. -/
theorem mayWait_bar (c : Dev nD) (n k : ℕ) :
    (levAts L lv : sProp 𝕄) ⊢ MayWait (c : Thread nD τ) (.reg barS) () (owe c 16 n k) := by
  refine MayOwe.of_cut (L := L) (lev := lv) 1 (fun p hp => by rw [Finset.mem_singleton.mp hp, L_tc]; exact Finset.mem_singleton_self _)
      (fun g u hg => by rcases owe_pos hg with ⟨_, d, rfl⟩ | ⟨d, rfl⟩ | ⟨d, rfl⟩ <;> exact Finset.mem_singleton_self _)
      (fun p hp => by rw [Finset.mem_singleton.mp hp]; exact (lv_bar c).le)
      (fun g u hg => by
        rcases owe_pos hg with ⟨h, d, rfl⟩ | ⟨d, rfl⟩ | ⟨d, rfl⟩
        · exact absurd h (lt_irrefl _)
        · rw [lv_R]; decide
        · rw [lv_MR]; decide)
omit [FloatOps F] in
theorem mayWait_zero' (c : Dev nD) (sm : SemLoc sig) : (levAts L lv : sProp 𝕄) ⊢ MayWait (c : Thread nD τ) sm () (owe c 16 16 16) := by
  rw [owe_none, MayWait_zero]; iintro -; iempintro

theorem lv_W (c : Dev nD) (k : Fin 8) : lv (dCell c (qW k)) () = 0 := if_neg (by have := qW_lt k; omega)
theorem lv_S (c d : Dev nD) : lv (dCell c (qS d)) () = 0 := if_neg (by have := qS_rng d; omega)
theorem lv_MS (c d : Dev nD) : lv (dCell c (qMS d)) () = 0 := if_neg (by have := qMS_rng d; omega)

end Cert.Exchange
-- ==== Proof.Contents.lean ====
/-
# What the stores, the loads and the landings leave in the buffers
-/
module

public import proofs.«01_k».proof.Proof.Sched
public import Idealize.ShloMosaic.Lib.ValueLayout

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Slots as sets of elements -/

theorem sSl_set (d : Dev nD) : (sSl d).view.set = (rSlot d).set :=
  (View.set_reshape _ _).trans (View.set_slice_whole _ _)
theorem rSl_set (d : Dev nD) : (rSl d).view.set = (rSlot d).set :=
  (View.set_reshape _ _).trans (View.set_slice_whole _ _)
theorem zSl_set (d : Dev nD) : (zSl d).view.set = (rZ d).set :=
  (View.set_reshape _ _).trans (View.set_slice_whole _ _)
theorem wSl_set (k : Fin 8) : (wSl k).view.set = (rW k).set :=
  (View.set_reshape _ _).trans (View.set_slice_whole _ _)
theorem aSl_set (c : Dev nD) (N : ℕ) : (aSl c N).view.set = (rA c N).set := View.set_slice_whole _ _

/-- An element of a rectangle is the image of a position in it. -/
theorem mem_set_emb {s : Shape} (r : Rect s) {i : s.Idx} (h : i ∈ r.set) : ∃ x, r.emb x = i := by
  rw [← Rect.map_emb_univ, Finset.mem_map] at h
  obtain ⟨x, -, e⟩ := h
  exact ⟨x, e⟩

/-! ## Stores into slots -/

/-- After the store of the piece for `d`, slot `d` of the send buffer holds what the finished buffer holds there. -/
theorem sPt_store (c d : Dev nD) (f : Buf (Elt F) (lS c)) :
    (lS c ↦[(rSlot d).set]{fullShare} ((sM.access (rSlot d)).write (Elt F) f (PV m ρ c d) Finset.univ) : sProp 𝕄) = sPt c d (SV m ρ c) := by
  unfold sPt
  refine pointsTo_congr fun i hi => ?_
  obtain ⟨x, rfl⟩ := mem_set_emb _ hi
  refine (View.write_emb_of_mem (v := sM.access (rSlot d)) f (PV m ρ c d) (Finset.mem_univ x)).trans ?_
  have e0 : ((rSlot d).emb x) 0 = d := Fin.ext (by have := (x 0).isLt; change (x 0).val < 1 at this; show d.val + 1 * (x 0).val = d.val; omega)
  have e1 : ix3 (n0 := 1) (n1 := 256) (n2 := 128) 0 (((rSlot d).emb x) 1) (((rSlot d).emb x) 2) = x := by
    rw [ValueIdx.eq_ix3 x]
    have h0 := (x 0).isLt; change (x 0).val < 1 at h0
    congr 1
    · exact Fin.ext (by show 0 = (x 0).val; omega)
    · exact Fin.ext (by show 0 + 1 * (x 1).val = (x 1).val; omega)
    · exact Fin.ext (by show 0 + 1 * (x 2).val = (x 2).val; omega)
  show PV m ρ c d x = PV m ρ c _ _
  rw [e0, e1]

/-- After the store of its own piece, slot `c` of the receive buffer holds what the finished buffer holds there. -/
theorem rPt_store (c : Dev nD) (f : Buf (Elt F) (lR c)) :
    (lR c ↦[(rSlot c).set]{fullShare} ((rM.access (rSlot c)).write (Elt F) f (PV m ρ c c) Finset.univ) : sProp 𝕄) = rPt c c (RV m ρ c) := by
  unfold rPt
  refine pointsTo_congr fun i hi => ?_
  obtain ⟨x, rfl⟩ := mem_set_emb _ hi
  refine (View.write_emb_of_mem (v := rM.access (rSlot c)) f (PV m ρ c c) (Finset.mem_univ x)).trans ?_
  have e0 : ((rSlot c).emb x) 0 = c := Fin.ext (by have := (x 0).isLt; change (x 0).val < 1 at this; show c.val + 1 * (x 0).val = c.val; omega)
  have e1 : ix3 (n0 := 1) (n1 := 256) (n2 := 128) 0 (((rSlot c).emb x) 1) (((rSlot c).emb x) 2) = x := by
    rw [ValueIdx.eq_ix3 x]
    have h0 := (x 0).isLt; change (x 0).val < 1 at h0
    congr 1
    · exact Fin.ext (by show 0 = (x 0).val; omega)
    · exact Fin.ext (by show 0 + 1 * (x 1).val = (x 1).val; omega)
    · exact Fin.ext (by show 0 + 1 * (x 2).val = (x 2).val; omega)
  show PV m ρ c c x = PV m ρ _ c _
  rw [e0, e1]

/-- The maximum spread over a block is the same everywhere, in either form. -/
theorem pay65_at (v : F .f32) (x : S1x8x128.Idx) : k0_pay65 (k0_pay64 v) x = v := rfl
theorem pay64_at (v : F .f32) (x : S8x128.Idx) : k0_pay64 v x = v := rfl

/-- After the store of its own maximum, slot `c` of the received maxima holds what the finished buffer holds there. -/
theorem zPt_store (c : Dev nD) (f : Buf (Elt F) (lZ c)) :
    (lZ c ↦[(rZ c).set]{fullShare} ((zM.access (rZ c)).write (Elt F) f (k0_pay65 (MX m ρ c)) Finset.univ) : sProp 𝕄) = zPt c c (ZV m ρ c) := by
  unfold zPt
  refine pointsTo_congr fun i hi => ?_
  obtain ⟨x, rfl⟩ := mem_set_emb _ hi
  refine (View.write_emb_of_mem (v := zM.access (rZ c)) f (k0_pay65 (MX m ρ c)) (Finset.mem_univ x)).trans ?_
  have e0 : ((rZ c).emb x) 0 = c := Fin.ext (by have := (x 0).isLt; change (x 0).val < 1 at this; show c.val + 1 * (x 0).val = c.val; omega)
  show k0_pay65 (k0_pay64 (MV m ρ c 3)) x = k0_pay65 (k0_pay64 (MV m ρ _ 3)) _
  rw [pay65_at, pay65_at, e0]

/-! ## Landings -/

/-- A piece sent by `c` and landed in slot `c` of `d`'s receive buffer. -/
theorem rPt_land (c d : Dev nD) (f : Buf (Elt F) (lR d)) :
    (lR d ↦[(rSlot c).set]{fullShare} ((rSl c).view.write (Elt F) f ((sSl d).view.read (Elt F) (SV m ρ c)) Finset.univ) : sProp 𝕄) = rPt d c (RV m ρ d) := by
  unfold rPt
  refine pointsTo_congr fun i hi => ?_
  rw [← rSl_set] at hi
  obtain ⟨y, -, rfl⟩ := Finset.mem_map.mp hi
  refine (View.write_emb_of_mem (v := (rSl c).view) f _ (Finset.mem_univ y)).trans ?_
  have hx := (Shape.reshapeEquiv (squeezes_S1x256x128_S256x128).numel_eq y 0).isLt
  change _ < 1 at hx
  show PV m ρ c ⟨d.val + 1 * (Shape.reshapeEquiv (squeezes_S1x256x128_S256x128).numel_eq y 0).val, _⟩ _ = PV m ρ ⟨c.val + 1 * (Shape.reshapeEquiv (squeezes_S1x256x128_S256x128).numel_eq y 0).val, _⟩ d _
  refine congrFun (congr (congrArg (PV m ρ) ?_) ?_) _
  · exact Fin.ext (by show c.val = c.val + 1 * _; omega)
  · exact Fin.ext (by show d.val + 1 * _ = d.val; omega)

/-- A maximum sent by `c` and landed in slot `c` of `d`'s received maxima. -/
theorem zPt_land (c d : Dev nD) (f : Buf (Elt F) (lZ d)) :
    (lZ d ↦[(rZ c).set]{fullShare} ((zSl c).view.write (Elt F) f (mM.view.read (Elt F) (MX m ρ c)) Finset.univ) : sProp 𝕄) = zPt d c (ZV m ρ d) := by
  unfold zPt
  refine pointsTo_congr fun i hi => ?_
  rw [← zSl_set] at hi
  obtain ⟨y, -, rfl⟩ := Finset.mem_map.mp hi
  refine (View.write_emb_of_mem (v := (zSl c).view) f _ (Finset.mem_univ y)).trans ?_
  have hx := (Shape.reshapeEquiv (squeezes_S1x8x128_S8x128).numel_eq y 0).isLt
  change _ < 1 at hx
  show MV m ρ c 3 = MV m ρ ⟨c.val + 1 * (Shape.reshapeEquiv (squeezes_S1x8x128_S8x128).numel_eq y 0).val, _⟩ 3
  congr 1
  exact Fin.ext (by show c.val = c.val + 1 * _; omega)

/-- A weight tile landed in its quarter of the weight buffer: the `N`-th copy, for group step `N / 4`. -/
theorem wPt_land (c : Dev nD) (k : Fin 8) (N : ℕ) (hk : N % 4 = k.val % 4) (f : Buf (Elt F) (lW c)) :
    (lW c ↦[(rW k).set]{fullShare} ((wSl k).view.write (Elt F) f ((aSl c N).view.read (Elt F) (m (lA c))) Finset.univ) : sProp 𝕄)
      = wPt c k (WB m c (N / 4)) := by
  unfold wPt
  refine pointsTo_congr fun i hi => ?_
  rw [← wSl_set] at hi
  obtain ⟨y, -, rfl⟩ := Finset.mem_map.mp hi
  refine (View.write_emb_of_mem (v := (wSl k).view) f _ (Finset.mem_univ y)).trans ?_
  show m (lA c) ((rA c N).emb y) = m (lA c) (ix2 (n0 := 4096) (n1 := 2048) _ _)
  congr 1
  have e : Shape.reshapeEquiv (squeezes_S1x1024x512_S1024x512).numel_eq y = ix3 0 (y 0) (y 1) := by
    rw [ValueIdx.eq_ix2 y]; exact ValueIdx.reshapeEquiv_ix2_1ab _ _ _
  rw [ValueIdx.eq_ix2 ((rA c N).emb y)]
  congr 1
  · apply Fin.ext
    show (N % 4) * 1024 + 1 * (y 0).val = (k.val % 4) * 1024 + 1 * (Shape.reshapeEquiv (squeezes_S1x1024x512_S1024x512).numel_eq y 1).val
    rw [e, hk]
  · apply Fin.ext
    show wcol c (N / 4) + 1 * (y 1).val = wcol c (N / 4) + (0 + 1 * (Shape.reshapeEquiv (squeezes_S1x1024x512_S1024x512).numel_eq y 2).val)
    rw [e]; show _ + 1 * (y 1).val = _ + (0 + 1 * (y 1).val); omega

/-! ## Loads -/

theorem wload_inb (i : ℕ) : ∀ a, (![i % 2, 0, 0] : Fin 3 → ℕ) a + S1x4096x512.size a ≤ S2x4096x512.size a := by
  intro a; fin_cases a
  · show i % 2 + 1 ≤ 2; omega
  · exact Nat.le_refl 4096
  · exact Nat.le_refl 512
/-- The load of a whole slot of the weight buffer. -/
theorem wload_read (c : Dev nD) (i : ℕ) :
    wM.view.readAt (Elt F) (Rect.unit (s := S2x4096x512) ![i % 2, 0, 0] S1x4096x512.size (wload_inb i)).toLoadRect (WB m c i) = WV m c i := by
  funext x
  show m (lA c) (ix2 (n0 := 4096) (n1 := 2048) _ _) = m (lA c) (ix2 (n0 := 4096) (n1 := 2048) _ _)
  congr 2
  · exact Fin.ext (by show 0 + 1 * (x 1).val = (x 1).val; omega)
  · exact Fin.ext (by show wcol c i + (0 + 1 * (x 2).val) = wcol c i + (x 2).val; omega)

/-! ## Shares -/

theorem sep_rot (A B C : sProp 𝕄) : iprop((A ∗ B) ∗ C) = iprop(B ∗ (A ∗ C)) := by
  have h1 : iprop((A ∗ B) ∗ C) ⊢ iprop(B ∗ (A ∗ C)) := by iintro ⟨⟨A, B⟩, C⟩; iframe
  have h2 : iprop(B ∗ (A ∗ C)) ⊢ iprop((A ∗ B) ∗ C) := by iintro ⟨B, A, C⟩; iframe
  exact BI.Entails.antisymm h1 h2

theorem share_split {ℓ : Loc nD τ sig} (I : Finset (Idx ℓ)) (f : Buf (Elt F) ℓ) : ∀ n : ℕ,
    (ℓ ↦[I]{fullShare} f : sProp 𝕄) = iprop((ℓ ↦[I]{shR n} f) ∗ bigSep (Finset.range n) fun i => ℓ ↦[I]{shA i} f)
  | 0 => by
    rw [Finset.range_zero, bigSep_empty]
    exact (BI.equiv_iff.mp BI.sep_emp).symm
  | n + 1 => by
    rw [share_split I f n, Finset.range_add_one, bigSep_insert Finset.notMem_range_self, BI.equiv_iff.mp ⟨(pointsTo_share (PosShare.mem_left_op_right (shR n))).1, (pointsTo_share (PosShare.mem_left_op_right (shR n))).2⟩]
    show iprop(((ℓ ↦[I]{shA n} f) ∗ (ℓ ↦[I]{shR (n + 1)} f)) ∗ _) = iprop(_ ∗ (_ ∗ _))
    exact sep_rot _ _ _

/-- A family over the numbers below `n` is the family over `Fin n`. -/
theorem range_fin (n : ℕ) (Φ : ℕ → sProp 𝕄) : bigSep (Finset.range n) Φ = bigSep Finset.univ fun i : Fin n => Φ i.val := by
  have h : (Finset.univ : Finset (Fin n)).map Fin.valEmbedding = Finset.range n := by
    ext i; simp [Fin.exists_iff]
  rw [← h, bigSep_map]; rfl

end Cert.Exchange
-- ==== Proof.State.lean ====
/-
# Where a device stands in the exchange

What a device holds between two of its effects, as a function of how many of each kind it has performed.
-/
module

public import proofs.«01_k».proof.Proof.Contents

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Families over the peers -/

/-- One assertion per peer of `c`: `A` until `n` passes the peer's first number, then `B` until `y` passes its second, then `C`. -/
def fam2 (c : Dev nD) (f g : Dev nD → ℕ) (n y : ℕ) (A B C : Dev nD → sProp 𝕄) : sProp 𝕄 :=
  bigSep Finset.univ fun d => if d = c then iprop(emp) else if n ≤ f d then A d else if y ≤ g d then B d else C d
/-- The same with one number. -/
abbrev fam (c : Dev nD) (f : Dev nD → ℕ) (n : ℕ) (A B : Dev nD → sProp 𝕄) : sProp 𝕄 := fam2 c f f n 0 A B B

omit [FloatOps F] in
/-- One member of a family set apart from the rest. -/
theorem bs_erase {I : Type} [DecidableEq I] {s : Finset I} {i : I} (h : i ∈ s) {Φ : I → sProp 𝕄} :
    bigSep s Φ = iprop(Φ i ∗ bigSep (s.erase i) Φ) := bigSep_erase h
omit [FloatOps F] in
/-- One member of a family, the rest dropped. -/
theorem bs_elim {I : Type} [DecidableEq I] {s : Finset I} {i : I} (h : i ∈ s) {Φ : I → sProp 𝕄} : (bigSep s Φ : sProp 𝕄) ⊢ Φ i := bigSep_elim h
omit [FloatOps F] in
/-- One member of a family taken out, to be put back changed. -/
theorem fam_take {I : Type} [Fintype I] [DecidableEq I] (Φ Φ' : I → sProp 𝕄) (i : I) (h : ∀ x, x ≠ i → Φ x = Φ' x) :
    bigSep Finset.univ Φ ⊢ iprop(Φ i ∗ (Φ' i -∗ bigSep Finset.univ Φ')) := by
  rw [bs_erase (Finset.mem_univ i) (Φ := Φ), bs_erase (Finset.mem_univ i) (Φ := Φ'),
    bigSep_congr fun x hx => h x (Finset.ne_of_mem_erase hx)]
  iintro ⟨A, B⟩
  isplitl [A]; · iexact A
  iintro C
  isplitl [C]; · iexact C
  iexact B

omit [FloatOps F] in
theorem emp_sep_eq (P : sProp 𝕄) : iprop(emp ∗ P) = P := by
  have h1 : iprop(emp ∗ P) ⊢ P := by iintro ⟨-, H⟩; iexact H
  have h2 : P ⊢ iprop(emp ∗ P) := by
    iintro H
    isplitr; · iempintro
    iexact H
  exact BI.Entails.antisymm h1 h2

section Fam

theorem fam2_step1 (c d : Dev nD) (f g : Dev nD → ℕ) (n y : ℕ) (A B C : Dev nD → sProp 𝕄) (hd : d ≠ c) (hn : f d = n) (hy : y ≤ g d) (hi : ∀ a b, f a = f b → a = b) :
    fam2 c f g n y A B C ⊢ iprop(A d ∗ (B d -∗ fam2 c f g (n + 1) y A B C)) := by
  have h := fam_take (fun d => if d = c then iprop(emp) else if n ≤ f d then A d else if y ≤ g d then B d else C d)
    (fun d => if d = c then iprop(emp) else if n + 1 ≤ f d then A d else if y ≤ g d then B d else C d) d fun x hx => by
      have : f x ≠ n := fun e => hx (hi _ _ (e.trans hn.symm))
      have e : (n ≤ f x) = (n + 1 ≤ f x) := propext ⟨fun _ => by omega, fun _ => by omega⟩
      simp only [e]
  simp only [if_neg hd, if_pos (show n ≤ f d by omega), if_neg (show ¬ n + 1 ≤ f d by omega), if_pos hy] at h
  exact h
theorem fam2_step2 (c d : Dev nD) (f g : Dev nD → ℕ) (n y : ℕ) (A B C : Dev nD → sProp 𝕄) (hd : d ≠ c) (hn : f d < n) (hy : g d = y) (hi : ∀ a b, g a = g b → a = b) :
    fam2 c f g n y A B C ⊢ iprop(B d ∗ (C d -∗ fam2 c f g n (y + 1) A B C)) := by
  have h := fam_take (fun d => if d = c then iprop(emp) else if n ≤ f d then A d else if y ≤ g d then B d else C d)
    (fun d => if d = c then iprop(emp) else if n ≤ f d then A d else if y + 1 ≤ g d then B d else C d) d fun x hx => by
      have : g x ≠ y := fun e => hx (hi _ _ (e.trans hy.symm))
      have e : (y ≤ g x) = (y + 1 ≤ g x) := propext ⟨fun _ => by omega, fun _ => by omega⟩
      simp only [e]
  simp only [if_neg hd, if_neg (show ¬ n ≤ f d by omega), if_pos (show y ≤ g d by omega), if_neg (show ¬ y + 1 ≤ g d by omega)] at h
  exact h
theorem fam2_skip (c d : Dev nD) (f g : Dev nD → ℕ) (n y : ℕ) (A B C : Dev nD → sProp 𝕄) (hn : f c = n) (hi : ∀ a b, f a = f b → a = b) : fam2 c f g n y A B C = fam2 c f g (n + 1) y A B C := by
  unfold fam2
  refine bigSep_congr fun x _ => ?_
  by_cases hx : x = c
  · simp only [if_pos hx]
  · have : f x ≠ n := fun e => hx (hi _ _ (e.trans hn.symm))
    have e : (n ≤ f x) = (n + 1 ≤ f x) := propext ⟨fun _ => by omega, fun _ => by omega⟩
    simp only [e]
/-- A family not yet begun, with a member for `c` itself, is a family over everyone. -/
theorem fam2_start (c d : Dev nD) (f g : Dev nD → ℕ) (n y : ℕ) (A B C : Dev nD → sProp 𝕄) (hn : ∀ d, d ≠ c → n ≤ f d) : fam2 c f g n y A B C = bigSep (Finset.univ.erase c) A := by
  unfold fam2
  rw [bs_erase (Finset.mem_univ c), if_pos rfl, emp_sep_eq]
  refine bigSep_congr fun x hx => ?_
  have hx := Finset.ne_of_mem_erase hx
  rw [if_neg hx, if_pos (hn x hx)]
theorem fam2_mid (c d : Dev nD) (f g : Dev nD → ℕ) (n y : ℕ) (A B C : Dev nD → sProp 𝕄) (hn : ∀ d, d ≠ c → f d < n) (hy : ∀ d, d ≠ c → y ≤ g d) : fam2 c f g n y A B C = bigSep (Finset.univ.erase c) B := by
  unfold fam2
  rw [bs_erase (Finset.mem_univ c), if_pos rfl, emp_sep_eq]
  refine bigSep_congr fun x hx => ?_
  have hx := Finset.ne_of_mem_erase hx
  rw [if_neg hx, if_neg (by have := hn x hx; omega), if_pos (hy x hx)]
theorem fam2_end (c d : Dev nD) (f g : Dev nD → ℕ) (n y : ℕ) (A B C : Dev nD → sProp 𝕄) (hn : ∀ d, d ≠ c → f d < n) (hy : ∀ d, d ≠ c → g d < y) : fam2 c f g n y A B C = bigSep (Finset.univ.erase c) C := by
  unfold fam2
  rw [bs_erase (Finset.mem_univ c), if_pos rfl, emp_sep_eq]
  refine bigSep_congr fun x hx => ?_
  have hx := Finset.ne_of_mem_erase hx
  rw [if_neg hx, if_neg (by have := hn x hx; omega), if_neg (by have := hy x hx; omega)]
end Fam

/-! ## The cells' records -/

/-- A device's cells: its barrier, then its DMA semaphores from the third on. -/
def csem (i : Fin 73) : SemLoc sig := if h : i.val = 0 then .reg barS else .dma ⟨i.val + 1, by have := i.isLt; change _ < 74; omega⟩
def kcell (ck : Dev nD × Fin 73) : GSem nD τ sig := ((ck.1 : Thread nD τ), csem ck.2)
/-- Every cell's invariant, allocated under some name, and that it has reached round 0; and the levels. -/
def Recs : sProp 𝕄 :=
  iprop((bigSep Finset.univ fun ck : Dev nD × Fin 73 => iprop(∃ κ, cellInv ER (rd m ρ) κ (kcell ck) ∗ reached ER (kcell ck) 0)) ∗ levAts L lv)
instance Recs_pers : BI.Persistent (Recs (F := F) m ρ) := by unfold Recs; infer_instance

theorem rec_lev : Recs m ρ ⊢ levAts L lv := by unfold Recs; iintro ⟨-, H⟩; iexact H
theorem rec_at (d : Dev nD) (i : Fin 73) : Recs m ρ ⊢ iprop(∃ κ, cellInv ER (rd m ρ) κ (kcell (d, i)) ∗ reached ER (kcell (d, i)) 0) := by
  unfold Recs
  iintro ⟨H, -⟩
  iapply (bs_elim (Φ := fun ck : Dev nD × Fin 73 => iprop(∃ κ, cellInv ER (rd m ρ) κ (kcell ck) ∗ reached ER (kcell ck) 0)) (Finset.mem_univ (d, i)))
  iexact H
theorem rec_bar (d : Dev nD) : Recs m ρ ⊢ iprop(∃ κ, cellInv ER (rd m ρ) κ (bCell d) ∗ reached ER (bCell d) 0) := rec_at m ρ d 0
theorem csem_dma (q : DmaSem sig) (hq : 2 ≤ q.val) : csem ⟨q.val - 1, by have h := q.isLt; change q.val < 74 at h; omega⟩ = .dma q := by
  unfold csem
  rw [dif_neg (by show ¬ q.val - 1 = 0; omega)]
  congr 1
  exact Fin.ext (by show q.val - 1 + 1 = q.val; omega)
theorem rec_dma (d : Dev nD) (q : DmaSem sig) (hq : 2 ≤ q.val) :
    Recs m ρ ⊢ iprop(∃ κ, cellInv ER (rd m ρ) κ (dCell d q) ∗ reached ER (dCell d q) 0) := by
  have h := rec_at m ρ d ⟨q.val - 1, by have h := q.isLt; change q.val < 74 at h; omega⟩
  unfold kcell at h; rw [csem_dma q hq] at h
  exact h
theorem rec_W (d : Dev nD) (k : Fin 8) : Recs m ρ ⊢ iprop(∃ κ, cellInv ER (rd m ρ) κ (dCell d (qW k)) ∗ reached ER (dCell d (qW k)) 0) :=
  rec_dma m ρ d _ (by show 2 ≤ 2 + k.val; omega)
theorem rec_S (d e : Dev nD) : Recs m ρ ⊢ iprop(∃ κ, cellInv ER (rd m ρ) κ (dCell d (qS e)) ∗ reached ER (dCell d (qS e)) 0) :=
  rec_dma m ρ d _ (by show 2 ≤ 10 + e.val; omega)
theorem rec_R (d e : Dev nD) : Recs m ρ ⊢ iprop(∃ κ, cellInv ER (rd m ρ) κ (dCell d (qR e)) ∗ reached ER (dCell d (qR e)) 0) :=
  rec_dma m ρ d _ (by show 2 ≤ 26 + e.val; omega)
theorem rec_MS (d e : Dev nD) : Recs m ρ ⊢ iprop(∃ κ, cellInv ER (rd m ρ) κ (dCell d (qMS e)) ∗ reached ER (dCell d (qMS e)) 0) :=
  rec_dma m ρ d _ (by show 2 ≤ 42 + e.val; omega)
theorem rec_MR (d e : Dev nD) : Recs m ρ ⊢ iprop(∃ κ, cellInv ER (rd m ρ) κ (dCell d (qMR e)) ∗ reached ER (dCell d (qMR e)) 0) :=
  rec_dma m ρ d _ (by show 2 ≤ 58 + e.val; omega)

/-! ## The state -/

/-- How far a device is: weight copies started and awaited; the next barrier signal; whether the barrier is passed; pieces
    passed by the own-piece test and by the send test; the stage of the maximum (unwritten, written, own slot stored); the
    next maximum to send; the next piece and the next maximum to receive; the next piece and the next maximum whose send is
    awaited; whether the result is stored. -/
structure Ph where
  ns : ℕ
  nw : ℕ
  j : ℕ
  b : Bool
  no : ℕ
  n : ℕ
  s : ℕ
  k : ℕ
  u : ℕ
  v : ℕ
  y : ℕ
  z : ℕ
  o : Bool

def aFull (c : Dev nD) (k : Fin 8) : sProp 𝕄 := lA c ↦[Finset.univ]{shA k.val} m (lA c)
/-- A weight semaphore with its quarter of the buffer, its share of the weights and its two rounds. -/
def wQ (c : Dev nD) (k : Fin 8) : ℕ → sProp 𝕄
  | 0 => iprop(aFull m c k ∗ (∃ f, wPt c k f) ∗ dutyTok ER (dCell c (qW k)) 0 0 ∗ dutyTok ER (dCell c (qW k)) 1 0 ∗ atPos ER (dCell c (qW k)) 0 ∅ 0)
  | 1 => iprop(aPt' m c k k.val ∗ cred (tallyAt (dCell c (qW k)) () NW) ∗ dutyTok ER (dCell c (qW k)) 1 0 ∗ atPos ER (dCell c (qW k)) 0 ∅ 0)
  | 2 => iprop(aFull m c k ∗ wPt c k (WB m c (k.val / 4)) ∗ dutyTok ER (dCell c (qW k)) 1 0 ∗ atPos ER (dCell c (qW k)) 1 ∅ 0 ∗ reached ER (dCell c (qW k)) 1)
  | 3 => iprop(aPt' m c k (k.val + 8) ∗ cred (tallyAt (dCell c (qW k)) () NW) ∗ atPos ER (dCell c (qW k)) 1 ∅ 0)
  | _ => iprop(aFull m c k ∗ wPt c k (WB m c (k.val / 4 + 2)) ∗ atPos ER (dCell c (qW k)) 2 ∅ 0)
def wPh (k ns nw : ℕ) : ℕ := (if k < ns then 1 else 0) + (if k < nw then 1 else 0) + (if k + 8 < ns then 1 else 0) + (if k + 8 < nw then 1 else 0)
def WF (c : Dev nD) (ns nw : ℕ) : sProp 𝕄 := bigSep Finset.univ fun k : Fin 8 => wQ m c k (wPh k.val ns nw)

def OW (c : Dev nD) (j n k : ℕ) : sProp 𝕄 := iprop(∃ W, owes (c : Thread nD τ) (owe c j n k) W)
def XP (c : Dev nD) : sProp 𝕄 := lX c ↦{fullShare} (XV m ρ c : Buf (Elt F) (lX c))
/-- The slots still to be handed over with a barrier signal. -/
def SG (c : Dev nD) (j : ℕ) : sProp 𝕄 :=
  fam c (ofs c) j (fun d => iprop(barPay d c ∗ dutyTok ER (bCell d) 0 c)) (fun _ => iprop(emp))
/-- The barrier: before it, the credit to wait with; after it, the peers' slots not yet sent to. -/
def BS (c : Dev nD) (b : Bool) (n k : ℕ) : sProp 𝕄 := match b with
  | false => iprop(cred (tallyAt (bCell c) () 15) ∗ atPos ER (bCell c) 0 ∅ 0)
  | true => iprop(atPos ER (bCell c) 1 ∅ 0 ∗ fam c (rk c) n (fun d => iprop(∃ f, rPt d c f)) (fun _ => iprop(emp))
      ∗ fam c (ofs c) k (fun d => iprop(∃ f, zPt d c f)) (fun _ => iprop(emp)))
/-- The own slot of the receive buffer. -/
def OS (c : Dev nD) (no : ℕ) : sProp 𝕄 := if rk c c < no then rPt c c (RV m ρ c) else iprop(∃ f, rPt c c f)
/-- Per receiver: its send slot and tokens; the send in flight; the slot back. -/
def SF (c : Dev nD) (n y : ℕ) : sProp 𝕄 :=
  fam2 c (rk c) (ofs c) n y
    (fun d => iprop((∃ f, sPt c d f) ∗ dutyTok ER (dCell c (qS d)) 0 0 ∗ dutyTok ER (dCell d (qR c)) 0 0 ∗ atPos ER (dCell c (qS d)) 0 ∅ 0))
    (fun d => iprop(cred (tallyAt (dCell c (qS d)) () NP) ∗ atPos ER (dCell c (qS d)) 0 ∅ 0))
    (fun d => iprop(sPt c d (SV m ρ c) ∗ atPos ER (dCell c (qS d)) 1 ∅ 0))
/-- The own slot of the received maxima. -/
def ZO (c : Dev nD) (s : ℕ) : sProp 𝕄 := match s with
  | 2 => zPt c c (ZV m ρ c)
  | _ => iprop(∃ f, zPt c c f)
/-- The maximum's buffer: whole, then a share per receiver. -/
def MB (c : Dev nD) (s k z : ℕ) : sProp 𝕄 := match s with
  | 0 => iprop(∃ f : Buf (Elt F) (lM c), lM c ↦{fullShare} f)
  | 1 => lM c ↦{fullShare} MX m ρ c
  | _ => iprop((lM c ↦{shR 16} MX m ρ c) ∗ mPt m ρ c c ∗ fam2 c (ofs c) (ofs c) k z (mPt m ρ c) (fun _ => iprop(emp)) (mPt m ρ c))
def MK (c : Dev nD) (k z : ℕ) : sProp 𝕄 :=
  fam2 c (ofs c) (ofs c) k z
    (fun d => iprop(dutyTok ER (dCell c (qMS d)) 0 0 ∗ dutyTok ER (dCell d (qMR c)) 0 0 ∗ atPos ER (dCell c (qMS d)) 0 ∅ 0))
    (fun d => iprop(cred (tallyAt (dCell c (qMS d)) () NZ) ∗ atPos ER (dCell c (qMS d)) 0 ∅ 0))
    (fun d => atPos ER (dCell c (qMS d)) 1 ∅ 0)
/-- Per sender: the piece to come, the piece landed; the maximum to come, the maximum landed. -/
def RF (c : Dev nD) (u : ℕ) : sProp 𝕄 :=
  fam c (fun d => ofs d c) u (fun d => iprop(cred (tallyAt (dCell c (qR d)) () NP) ∗ atPos ER (dCell c (qR d)) 0 ∅ 0))
    (fun d => iprop(rPt c d (RV m ρ c) ∗ atPos ER (dCell c (qR d)) 1 ∅ 0))
def MR (c : Dev nD) (v : ℕ) : sProp 𝕄 :=
  fam c (fun d => ofs d c) v (fun d => iprop(cred (tallyAt (dCell c (qMR d)) () NZ) ∗ atPos ER (dCell c (qMR d)) 0 ∅ 0))
    (fun d => iprop(zPt c d (ZV m ρ c) ∗ atPos ER (dCell c (qMR d)) 1 ∅ 0))
def OP (c : Dev nD) (o : Bool) : sProp 𝕄 := match o with
  | false => iprop(∃ f : Buf (Elt F) (lO c), lO c ↦{fullShare} f)
  | true => lO c ↦{fullShare} (OV m ρ c : Buf (Elt F) (lO c))

/-- What device `c` holds at stage `p`. -/
def St (c : Dev nD) (p : Ph) : sProp 𝕄 :=
  iprop(Recs m ρ ∗ OW c p.j p.n p.k ∗ XP m ρ c ∗ WF m c p.ns p.nw ∗ SG c p.j ∗ BS c p.b p.n p.k ∗ OS m ρ c p.no ∗ SF m ρ c p.n p.y
    ∗ ZO m ρ c p.s ∗ MB m ρ c p.s p.k p.z ∗ MK c p.k p.z ∗ RF m ρ c p.u ∗ MR m ρ c p.v ∗ OP m ρ c p.o)

abbrev 𝒱₀ : Variants := Variants.none
/-- The weakest precondition of a piece of device `c`'s body. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

end Cert.Exchange
-- ==== Proof.Steps1.lean ====
/-
# The steps of the body: the weight copies, the loads, the barrier
-/
module

public import proofs.«01_k».proof.Proof.State

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The weight copies -/

/-- The start of a weight copy: the tile leaves the share of the weights, the quarter goes with it. -/
theorem wp_wstart (c : Dev nD) (k : Fin 8) (r : ℕ) (hr : r < 2) {α : Type} {kk : PUnit → Prog (TpuEff nD τ sig (Elt F) Λ₀ .tc) α} {Φ : α → sProp 𝕄}
    {κ : ℕ} (f : Buf (Elt F) (lW c)) {hsrc hdst hsem} :
    iprop(cellInv ER (rd m ρ) κ (dCell c (qW k)) ∗ aFull m c k ∗ wPt c k f ∗ dutyTok ER (dCell c (qW k)) r 0 ∗ reached ER (dCell c (qW k)) r)
      ⊢ iprop(((cred (tallyAt (dCell c (qW k)) () NW) ∗ aPt' m c k (k.val + 8 * r)) -∗ WP c (kk ⟨⟩) Φ)
          -∗ WP c (.op (.enqueueDma (aSl c (k.val + 8 * r)) (.here (wSl k)) (.dma (qW k)) hsrc hdst hsem) kk) Φ) := by
  have hk := k.isLt
  have h := Rounds.wp_copy_pointsTo 𝒱₀ ER (rd (F := F) m ρ) (c : Thread nD τ) none (Γ := .empty) (κ := κ) (src := aSl c (k.val + 8 * r)) (dst := wSl k) (sem := .dma (qW k))
    (defs := defs₀ (F := F)) (hsrc := hsrc) (hdst := hdst) (hsem := hsem) (k := kk) (Q := Φ) (q := shA k.val) (fs := m (lA c)) (fd := f) (r := r) (d := 0)
    (by rw [duties_W m ρ c k r hr]; exact Finset.mem_singleton_self _) () NW rfl (amount_W m ρ c k r 0)
    (by
      rw [payload_W, wSl_set, aSl_set]
      refine sep_mono_left ?_
      rw [show k.val / 4 + 2 * r = (k.val + 8 * r) / 4 by omega]
      exact Entails.of_eq (wPt_land m c k (k.val + 8 * r) (by omega) f)) (Es := Set.univ)
  rw [wSl_set, aSl_set] at h
  unfold aFull wPt aPt'
  iintro ⟨HI, Ha, Hw, Ht, Hr⟩ Hk
  ihave Ha := (pointsTo_split_subset (Finset.subset_univ (rA c (k.val + 8 * r)).set)) $$ Ha
  icases Ha with ⟨Ha, Ha'⟩
  iapply h $$ [HI Ha Hw Ht Hr]
  · iframe
  iintro Hc
  iapply Hk
  iframe

theorem sep_swap (A B C : sProp 𝕄) : iprop(A ∗ B ∗ C) = iprop(B ∗ A ∗ C) := by
  have h1 : iprop(A ∗ B ∗ C) ⊢ iprop(B ∗ A ∗ C) := by iintro ⟨A, B, C⟩; iframe
  have h2 : iprop(B ∗ A ∗ C) ⊢ iprop(A ∗ B ∗ C) := by iintro ⟨B, A, C⟩; iframe
  exact BI.Entails.antisymm h1 h2

theorem wPh_ne (k N ns nw : ℕ) (hk : k < 8) (hN : N < 16) (h : k ≠ N % 8) : wPh k N nw = wPh k (N + 1) nw := by
  unfold wPh
  have e1 : (k < N) = (k < N + 1) := propext ⟨fun _ => by omega, fun _ => by omega⟩
  have e2 : (k + 8 < N) = (k + 8 < N + 1) := propext ⟨fun _ => by omega, fun _ => by omega⟩
  simp only [e1, e2]
theorem wPh_ne' (k N ns nw : ℕ) (hk : k < 8) (hN : N < 16) (h : k ≠ N % 8) : wPh k ns N = wPh k ns (N + 1) := by
  unfold wPh
  have e1 : (k < N) = (k < N + 1) := propext ⟨fun _ => by omega, fun _ => by omega⟩
  have e2 : (k + 8 < N) = (k + 8 < N + 1) := propext ⟨fun _ => by omega, fun _ => by omega⟩
  simp only [e1, e2]

theorem WF_take (c : Dev nD) (ns nw ns' nw' : ℕ) (k : Fin 8) (h : ∀ x : Fin 8, x ≠ k → wPh x.val ns nw = wPh x.val ns' nw') (a b : ℕ)
    (ha : wPh k.val ns nw = a) (hb : wPh k.val ns' nw' = b) : WF (F := F) m c ns nw ⊢ iprop(wQ m c k a ∗ (wQ m c k b -∗ WF m c ns' nw')) := by
  subst ha hb
  exact fam_take _ (fun k : Fin 8 => wQ m c k (wPh k.val ns' nw')) k fun x hx => by rw [h x hx]

theorem st_wstart (c : Dev nD) (p : Ph) {α : Type} {kk : PUnit → Prog (TpuEff nD τ sig (Elt F) Λ₀ .tc) α} {Φ : α → sProp 𝕄}
    {oA : Dev nD → Fin 2 → ℕ} {oW : Fin 3 → ℕ} {inbA : ∀ a, oA c a + S1024x512.size a ≤ S4096x2048.size a}
    {inbW : ∀ a, oW a + S1x1024x512.size a ≤ S2x4096x512.size a} {q : DmaSem sig} {hsrc hdst hsem}
    (hp : p.ns < 16 ∧ p.nw ≤ p.ns ∧ p.ns < p.nw + 8 := by decide)
    (hA : ∀ c, oA c = ![(p.ns % 4) * 1024, wcol c (p.ns / 4)] := by decide +kernel)
    (hW : oW = ![(kOf p.ns).val / 4, ((kOf p.ns).val % 4) * 1024, 0] := by decide +kernel)
    (hq : q = qW (kOf p.ns) := by decide +kernel)
    (hk : St m ρ c { p with ns := p.ns + 1 } ⊢ WP c (kk ⟨⟩) Φ) :
    St m ρ c p ⊢ WP c (Prog.lift (.enqueueDma (aM.slice (Rect.unit (s := S4096x2048) (oA c) S1024x512.size inbA) (fun _ => rfl))
      (.here ((wM.slice (Rect.unit (s := S2x4096x512) oW S1x1024x512.size inbW) (fun _ => rfl)).squeeze S1024x512 squeezes_S1x1024x512_S1024x512))
      (.dma q) hsrc hdst hsem) >>= kk) Φ := by
  obtain ⟨h16, h1, h2⟩ := hp
  have hA' := hA c
  generalize oA c = oA' at *
  subst hq hW
  have hne : ∀ x : Fin 8, x ≠ kOf p.ns → wPh x.val p.ns p.nw = wPh x.val (p.ns + 1) p.nw := fun x hx =>
    wPh_ne _ _ 0 _ x.isLt h16 fun e => hx (Fin.ext e)
  have hk8 : (kOf p.ns).val = p.ns % 8 := rfl
  have hdiv : p.ns / 8 < 2 := by omega
  have hN : p.ns = (kOf p.ns).val + 8 * (p.ns / 8) := by rw [hk8]; omega
  have hA'' : oA' = ![(((kOf p.ns).val + 8 * (p.ns / 8)) % 4) * 1024, wcol c (((kOf p.ns).val + 8 * (p.ns / 8)) / 4)] := by rw [← hN]; exact hA'
  subst hA''
  unfold St
  iintro ⟨#Hrec, HOW, HXP, HWF, HSG, HBS, HOS, HSF, HZO, HMB, HMK, HRF, HMR, HOP⟩
  ihave Hcell := (rec_W m ρ c (kOf p.ns)) $$ Hrec
  icases Hcell with ⟨%κ, HI, Hr0⟩
  rcases Nat.lt_or_ge p.ns 8 with h8 | h8
  · have hd0 : p.ns / 8 = 0 := by omega
    have ha : wPh (kOf p.ns).val p.ns p.nw = 0 := by
      unfold wPh; rw [hk8, if_neg (by omega), if_neg (by omega), if_neg (by omega), if_neg (by omega)]
    have hb : wPh (kOf p.ns).val (p.ns + 1) p.nw = 1 := by
      unfold wPh; rw [hk8, if_pos (by omega), if_neg (by omega), if_neg (by omega), if_neg (by omega)]
    ihave HWF := (WF_take m c _ _ _ _ (kOf p.ns) hne 0 1 ha hb) $$ HWF
    simp only [wQ]
    icases HWF with ⟨⟨Ha, ⟨%f, Hw⟩, Ht, Ht1, Hat⟩, Hback⟩
    iapply (wp_wstart m ρ c (kOf p.ns) (p.ns / 8) hdiv (κ := κ) f) $$ [HI Ha Hw Ht Hr0]
    · rw [hd0]
      iframe # ∗
    rw [hd0]
    iintro ⟨Hc, Ha⟩
    iapply hk
    ihave HWF := Hback $$ [Hc Ha Ht1 Hat]
    · iframe
    unfold St
    iframe # ∗
  · have hd0 : p.ns / 8 = 1 := by omega
    have ha : wPh (kOf p.ns).val p.ns p.nw = 2 := by
      unfold wPh; rw [hk8, if_pos (by omega), if_pos (by omega), if_neg (by omega), if_neg (by omega)]
    have hb : wPh (kOf p.ns).val (p.ns + 1) p.nw = 3 := by
      unfold wPh; rw [hk8, if_pos (by omega), if_pos (by omega), if_pos (by omega), if_neg (by omega)]
    ihave HWF := (WF_take m c _ _ _ _ (kOf p.ns) hne 2 3 ha hb) $$ HWF
    simp only [wQ]
    icases HWF with ⟨⟨Ha, Hw, Ht, Hat, Hr⟩, Hback⟩
    iapply (wp_wstart m ρ c (kOf p.ns) (p.ns / 8) hdiv (κ := κ) _) $$ [HI Ha Hw Ht Hr]
    · rw [hd0]
      iframe # ∗
    rw [hd0]
    iintro ⟨Hc, Ha⟩
    iapply hk
    ihave HWF := Hback $$ [Hc Ha Hat]
    · iframe
    unfold St
    iframe # ∗

/-! ## Waits on DMA cells -/

/-- A wait for the one transfer of round `R` of an own DMA cell. -/
theorem wp_dwait (c : Dev nD) (q : DmaSem sig) (N R : ℕ) {α : Type} {kk : PUnit → Prog (TpuEff nD τ sig (Elt F) Λ₀ .tc) α} {Φ : α → sProp 𝕄}
    {κ : ℕ} {O : CellTallies nD τ sig Unit} {W : Waits sig Unit} {sp sp' : Space} {s s' : Shape} {e e' : EltTy}
    {src : Memref sig .tc sp' s' e'} {dst : Memref sig .tc sp s e} {hsrc : src.view.WordExact} {hdst : dst.view.WordExact}
    (hN : dst.view.dmaCredit = N) (hd : (rd (F := F) m ρ).duties (dCell c q) R = {0}) (he : (rd (F := F) m ρ).expect (dCell c q) R = N) :
    iprop(cellInv ER (rd m ρ) κ (dCell c q) ∗ cred (tallyAt (dCell c q) () N) ∗ owes (c : Thread nD τ) O W ∗ MayWait (c : Thread nD τ) (.dma q) () O
        ∗ atPos ER (dCell c q) R ∅ 0)
      ⊢ iprop(((∃ W, owes (c : Thread nD τ) O W) ∗ atPos ER (dCell c q) (R + 1) ∅ 0 ∗ reached ER (dCell c q) (R + 1)
            ∗ (rd (F := F) m ρ).payload (dCell c q) R 0 -∗ WP c (kk ⟨⟩) Φ)
          -∗ WP c (.op (.waitDma2 q src dst hsrc hdst) kk) Φ) := by
  subst hN
  have h := Rounds.wp_wait_rest_token 𝒱₀ ER (rd (F := F) m ρ) (c : Thread nD τ) none (Γ := .empty) (defs := defs₀ (F := F)) (κ := κ) (Q := Φ) (k := kk)
      (wpE_waitDma2_eq (src := src) (dst := dst) (hsrc := hsrc) (hdst := hdst) (sem := q) 𝒱₀ (c : Thread nD τ) none Set.univ)
      (Set.mem_univ _) () (O := O) (W := W) (R := R) (m := 0) (T := ∅) (by rw [Nat.zero_add]; exact he.symm)
  rw [rest_one m ρ _ _ hd] at h
  iintro H Hk
  iapply h $$ H
  iintro ⟨HO, Hat, Hr, Hp⟩
  iapply Hk
  isplitl [HO]; · iexists _; iexact HO
  iframe # ∗

theorem lev_W (c : Dev nD) (k : Fin 8) (j n l : ℕ) : Recs m ρ ⊢ MayWait (c : Thread nD τ) (.dma (qW k)) () (owe c j n l) :=
  (rec_lev m ρ).trans (mayWait_low c (qW k) (lv_W c k) j n l)

theorem aPt_join (c : Dev nD) (k : Fin 8) (N : ℕ) : iprop(aPt (F := F) m c k N ∗ aPt' m c k N) ⊢ aFull m c k :=
  (pointsTo_split_subset (Finset.subset_univ (rA c N).set)).2

/-- The wait for a weight copy: its quarter filled, its share of the weights whole again. -/
theorem st_wwait (c : Dev nD) (p : Ph) {α : Type} {kk : PUnit → Prog (TpuEff nD τ sig (Elt F) Λ₀ .tc) α} {Φ : α → sProp 𝕄}
    {q : DmaSem sig} {sp sp' : Space} {s s' : Shape} {e e' : EltTy}
    {src : Memref sig .tc sp' s' e'} {dst : Memref sig .tc sp s e} {hsrc : src.view.WordExact} {hdst : dst.view.WordExact}
    (hp : p.nw < 16 ∧ p.nw < p.ns ∧ p.ns ≤ p.nw + 8 := by decide)
    (hN : dst.view.dmaCredit = NW := by rfl)
    (hq : q = qW (kOf p.nw) := by decide +kernel)
    (hk : St m ρ c { p with nw := p.nw + 1 } ⊢ WP c (kk ⟨⟩) Φ) :
    St m ρ c p ⊢ WP c (Prog.lift (.waitDma2 q src dst hsrc hdst) >>= kk) Φ := by
  obtain ⟨h16, h1, h2⟩ := hp
  subst hq
  have hne : ∀ x : Fin 8, x ≠ kOf p.nw → wPh x.val p.ns p.nw = wPh x.val p.ns (p.nw + 1) := fun x hx =>
    wPh_ne' _ _ _ 0 x.isLt h16 fun e => hx (Fin.ext e)
  have hk8 : (kOf p.nw).val = p.nw % 8 := rfl
  unfold St
  iintro ⟨#Hrec, HOW, HXP, HWF, HSG, HBS, HOS, HSF, HZO, HMB, HMK, HRF, HMR, HOP⟩
  ihave Hcell := (rec_W m ρ c (kOf p.nw)) $$ Hrec
  icases Hcell with ⟨%κ, HI, Hr0⟩
  ihave Hlev := (lev_W m ρ c (kOf p.nw) p.j p.n p.k) $$ Hrec
  unfold OW
  icases HOW with ⟨%W, HOW⟩
  rcases Nat.lt_or_ge p.nw 8 with h8 | h8
  · have ha : wPh (kOf p.nw).val p.ns p.nw = 1 := by
      unfold wPh; rw [hk8, if_pos (by omega), if_neg (by omega), if_neg (by omega), if_neg (by omega)]
    have hb : wPh (kOf p.nw).val p.ns (p.nw + 1) = 2 := by
      unfold wPh; rw [hk8, if_pos (by omega), if_pos (by omega), if_neg (by omega), if_neg (by omega)]
    ihave HWF := (WF_take m c _ _ _ _ (kOf p.nw) hne 1 2 ha hb) $$ HWF
    simp only [wQ]
    icases HWF with ⟨⟨Ha, Hc, Ht1, Hat⟩, Hback⟩
    iapply (wp_dwait m ρ c (qW (kOf p.nw)) NW 0 (κ := κ) (W := W) hN (duties_W m ρ c _ 0 (by omega)) (expect_W m ρ c _ 0 (by omega))) $$ [HI Hc HOW Hlev Hat]
    · iframe # ∗
    rw [payload_W]
    simp only [Nat.mul_zero, Nat.add_zero]
    iintro ⟨HOW, Hat, Hr, Hw, Ha'⟩
    iapply hk
    ihave Ha := (aPt_join m c _ _) $$ [Ha Ha']
    · iframe # ∗
    ihave HWF := Hback $$ [Ha Hw Ht1 Hat Hr]
    · iframe # ∗
    unfold St OW
    iframe # ∗
  · have ha : wPh (kOf p.nw).val p.ns p.nw = 3 := by
      unfold wPh; rw [hk8, if_pos (by omega), if_pos (by omega), if_pos (by omega), if_neg (by omega)]
    have hb : wPh (kOf p.nw).val p.ns (p.nw + 1) = 4 := by
      unfold wPh; rw [hk8, if_pos (by omega), if_pos (by omega), if_pos (by omega), if_pos (by omega)]
    ihave HWF := (WF_take m c _ _ _ _ (kOf p.nw) hne 3 4 ha hb) $$ HWF
    simp only [wQ]
    icases HWF with ⟨⟨Ha, Hc, Hat⟩, Hback⟩
    iapply (wp_dwait m ρ c (qW (kOf p.nw)) NW 1 (κ := κ) (W := W) hN (duties_W m ρ c _ 1 (by omega)) (expect_W m ρ c _ 1 (by omega))) $$ [HI Hc HOW Hlev Hat]
    · iframe # ∗
    rw [payload_W]
    simp only [Nat.mul_one]
    iintro ⟨HOW, Hat, Hr, Hw, Ha'⟩
    iapply hk
    ihave Ha := (aPt_join m c _ _) $$ [Ha Ha']
    · iframe # ∗
    ihave HWF := Hback $$ [Ha Hw Hat]
    · iframe # ∗
    unfold St OW
    iframe # ∗

/-! ## The loads of `x` and of a slot of the weight buffer -/

theorem st_xload (c : Dev nD) (p : Ph) {α : Type} {kk : Vec F S256x4096 .f32 → Prog (TpuEff nD τ sig (Elt F) Λ₀ .tc) α} {Φ : α → sProp 𝕄} {inb hl}
    (hk : St m ρ c p ⊢ WP c (kk (XV m ρ c)) Φ) :
    St m ρ c p ⊢ WP c (Prog.lift (.load xM (Rect.unit (s := S256x4096) ![0, 0] S256x4096.size inb).toLoadRect hl) >>= kk) Φ := by
  have hz : (![0, 0] : Fin 2 → ℕ) = fun _ => 0 := funext fun a => by fin_cases a <;> rfl
  unfold St
  iintro ⟨#Hrec, HOW, HXP, HWF, HSG, HBS, HOS, HSF, HZO, HMB, HMK, HRF, HMR, HOP⟩
  unfold XP
  iapply (wp_load 𝒱₀ (c : Thread nD τ) none Set.univ (m := xM) (Finset.subset_univ _)) $$ HXP
  iintro HXP
  rw [show xM.view.readAt (Elt F) (Rect.unit (s := S256x4096) ![0, 0] S256x4096.size inb).toLoadRect (XV m ρ c) = XV m ρ c from
    Memref.readAt_unit_zero (Elt F) cc0_stg0_0 hz _ _]
  iapply hk
  unfold St XP
  iframe # ∗

/-- The quarters of slot `i`. -/
def wT (i : ℕ) : Finset (Fin 8) := Finset.univ.filter fun k => k.val / 4 = i % 2

/-- Everything of a landed quarter but its contents. -/
def wRest (c : Dev nD) (k : Fin 8) (r : ℕ) : sProp 𝕄 := match r with
  | 0 => iprop(aFull m c k ∗ dutyTok ER (dCell c (qW k)) 1 0 ∗ atPos ER (dCell c (qW k)) 1 ∅ 0 ∗ reached ER (dCell c (qW k)) 1)
  | _ => iprop(aFull m c k ∗ atPos ER (dCell c (qW k)) 2 ∅ 0)
theorem wQ_landed (c : Dev nD) (k : Fin 8) (i : ℕ) (hi : i < 4) (h : k.val / 4 = i % 2) :
    wQ (F := F) m c k (2 + 2 * (i / 2)) = iprop(wPt c k (WB m c i) ∗ wRest m c k (i / 2)) := by
  have hk := k.isLt
  rcases Nat.lt_or_ge i 2 with h2 | h2
  · obtain e : i / 2 = 0 := by omega
    rw [e, show i = k.val / 4 by omega]
    show iprop(aFull m c k ∗ wPt c k (WB m c (k.val / 4)) ∗ dutyTok ER (dCell c (qW k)) 1 0 ∗ atPos ER (dCell c (qW k)) 1 ∅ 0 ∗ reached ER (dCell c (qW k)) 1)
      = iprop(wPt c k (WB m c (k.val / 4)) ∗ aFull m c k ∗ dutyTok ER (dCell c (qW k)) 1 0 ∗ atPos ER (dCell c (qW k)) 1 ∅ 0 ∗ reached ER (dCell c (qW k)) 1)
    exact sep_swap _ _ _
  · obtain e : i / 2 = 1 := by omega
    rw [e, show i = k.val / 4 + 2 by omega]
    show iprop(aFull m c k ∗ wPt c k (WB m c (k.val / 4 + 2)) ∗ atPos ER (dCell c (qW k)) 2 ∅ 0)
      = iprop(wPt c k (WB m c (k.val / 4 + 2)) ∗ aFull m c k ∗ atPos ER (dCell c (qW k)) 2 ∅ 0)
    exact sep_swap _ _ _

theorem wT_disj (i : ℕ) : ∀ t ∈ wT i, ∀ t' ∈ wT i, t ≠ t' → Disjoint (rW t).set (rW t').set := by
  intro t ht t' ht' hne
  have h1 := (Finset.mem_filter.mp ht).2
  have h2 := (Finset.mem_filter.mp ht').2
  rw [Finset.disjoint_left]
  intro x hx hx'
  have a := (Rect.mem_set_unit.mp hx) 1
  have b := (Rect.mem_set_unit.mp hx') 1
  change t.val % 4 * 1024 ≤ (x 1).val ∧ (x 1).val < t.val % 4 * 1024 + 1024 at a
  change t'.val % 4 * 1024 ≤ (x 1).val ∧ (x 1).val < t'.val % 4 * 1024 + 1024 at b
  exact hne (Fin.ext (by omega))

theorem st_wload (c : Dev nD) (p : Ph) (i : ℕ) {α : Type} {kk : Vec F S1x4096x512 .f32 → Prog (TpuEff nD τ sig (Elt F) Λ₀ .tc) α} {Φ : α → sProp 𝕄}
    {oL : Fin 3 → ℕ} {inb : ∀ a, oL a + S1x4096x512.size a ≤ S2x4096x512.size a} {hl}
    (hi : i < 4 := by decide) (hL : oL = ![i % 2, 0, 0] := by decide +kernel)
    (hp : ∀ k : Fin 8, k.val / 4 = i % 2 → wPh k.val p.ns p.nw = 2 + 2 * (i / 2) := by decide)
    (hk : St m ρ c p ⊢ WP c (kk (WV m c i)) Φ) :
    St m ρ c p ⊢ WP c (Prog.lift (.load wM (Rect.unit (s := S2x4096x512) oL S1x4096x512.size inb).toLoadRect hl) >>= kk) Φ := by
  subst hL
  have hsplit : WF (F := F) m c p.ns p.nw = iprop(((lW c ↦[(wT i).biUnion fun k => (rW k).set]{fullShare} WB m c i)
      ∗ bigSep (wT i) fun k => wRest m c k (i / 2)) ∗ bigSep (Finset.univ \ wT i) fun k : Fin 8 => wQ m c k (wPh k.val p.ns p.nw)) := by
    unfold WF
    refine (bigSep_sdiff_split (Finset.subset_univ (wT i))).trans ?_
    have e : bigSep (wT i) (fun k : Fin 8 => wQ (F := F) m c k (wPh k.val p.ns p.nw)) = iprop((lW c ↦[(wT i).biUnion fun k => (rW k).set]{fullShare} WB m c i)
        ∗ bigSep (wT i) fun k => wRest m c k (i / 2)) := by
      rw [show (lW c ↦[(wT i).biUnion fun k => (rW k).set]{fullShare} WB (F := F) m c i : sProp 𝕄) = bigSep (wT i) fun k => (lW c ↦[(rW k).set]{fullShare} WB m c i)
        from pointsTo_biUnion (ℓ := lW c) (wT i) (fun k => (rW k).set) (wT_disj i), ← bigSep_sep']
      refine bigSep_congr fun k hk => ?_
      have hk := (Finset.mem_filter.mp hk).2
      rw [hp k hk, wQ_landed m c k i hi hk]; rfl
    rw [e]; rfl
  have hsub : wM.view.setOn (Rect.unit (s := S2x4096x512) ![i % 2, 0, 0] S1x4096x512.size inb).toLoadRect.set ⊆ (wT i).biUnion fun k => (rW k).set := by
    intro x hx
    obtain ⟨y, hy, rfl⟩ := Finset.mem_map.mp hx
    have h0 := (Rect.mem_set_unit.mp hy) 0
    have h1 := (y 1).isLt; change (y 1).val < 4096 at h1
    have h2 := (y 2).isLt; change (y 2).val < 512 at h2
    change i % 2 ≤ (y 0).val ∧ (y 0).val < i % 2 + 1 at h0
    refine Finset.mem_biUnion.mpr ⟨⟨(i % 2) * 4 + (y 1).val / 1024, by omega⟩, Finset.mem_filter.mpr ⟨Finset.mem_univ _, by show ((i % 2) * 4 + (y 1).val / 1024) / 4 = i % 2; omega⟩, ?_⟩
    refine Rect.mem_set_unit.mpr fun a => ?_
    fin_cases a
    · show ((i % 2) * 4 + (y 1).val / 1024) / 4 ≤ (y 0).val ∧ (y 0).val < ((i % 2) * 4 + (y 1).val / 1024) / 4 + 1; omega
    · show ((i % 2) * 4 + (y 1).val / 1024) % 4 * 1024 ≤ (y 1).val ∧ (y 1).val < ((i % 2) * 4 + (y 1).val / 1024) % 4 * 1024 + 1024; omega
    · show 0 ≤ (y 2).val ∧ (y 2).val < 0 + 512; omega
  have hk' := hk
  unfold St at hk' ⊢
  rw [hsplit] at hk' ⊢
  iintro ⟨#Hrec, HOW, HXP, ⟨⟨HW, HW1⟩, HW2⟩, HSG, HBS, HOS, HSF, HZO, HMB, HMK, HRF, HMR, HOP⟩
  iapply (wp_load 𝒱₀ (c : Thread nD τ) none Set.univ (m := wM) hsub) $$ HW
  iintro HW
  rw [show wM.view.readAt (Elt F) (Rect.unit (s := S2x4096x512) ![i % 2, 0, 0] S1x4096x512.size inb).toLoadRect (WB m c i) = WV m c i from wload_read m c i]
  iapply hk'
  iframe # ∗

/-! ## The barrier -/

theorem wp_sig (c d : Dev nD) (j n k : ℕ) (hd : d ≠ c) (hj : ofs c d = j) {α : Type} {kk : PUnit → Prog (TpuEff nD τ sig (Elt F) Λ₀ .tc) α} {Φ : α → sProp 𝕄}
    {κ : ℕ} {W : Waits sig Unit} {x : ℕ} (hx : x = 1) :
    iprop(cellInv ER (rd m ρ) κ (bCell d) ∗ owes (c : Thread nD τ) (owe c j n k) W ∗ dutyTok ER (bCell d) 0 c ∗ barPay d c ∗ reached ER (bCell d) 0)
      ⊢ iprop((OW c (j + 1) n k -∗ WP c (kk ⟨⟩) Φ) -∗ WP c (.op (.semSignal (d : Thread nD τ) barS x) kk) Φ) := by
  subst hx
  have h := Rounds.wp_signal 𝒱₀ ER (rd (F := F) m ρ) (c : Thread nD τ) none (Γ := .empty) (defs := defs₀ (F := F)) (dst := (d : Thread nD τ)) (sem := barS)
    (κ := κ) (r := 0) (d := c) (k := kk) (Q := Φ) (W := W) (Es := Set.univ)
    (by rw [duties_bar]; exact Finset.mem_erase.mpr ⟨fun e => hd e.symm, Finset.mem_univ _⟩) (amount_bar m ρ d c) () (owe c (j + 1) n k)
    (owe_signal c d j n k hd hj)
  rw [payload_bar] at h
  iintro H Hk
  iapply h $$ H
  iintro HO
  iapply Hk
  unfold OW
  iexists _; iexact HO

/-- A barrier signal hands its receiver the slots it will write. -/
theorem st_sig (c : Dev nD) (p : Ph) {α : Type} {kk : PUnit → Prog (TpuEff nD τ sig (Elt F) Λ₀ .tc) α} {Φ : α → sProp 𝕄} {dv : Dev nD → Dev nD}
    (hp : 0 < p.j ∧ p.j < 16 := by decide) (hd : ∀ c, dv c = up c p.j := by decide +kernel)
    (hk : St m ρ c { p with j := p.j + 1 } ⊢ WP c (kk ⟨⟩) Φ) :
    St m ρ c p ⊢ WP c (semSignalWord (dv c) barS 1#32 >>= kk) Φ := by
  rw [hd c]
  have hne := up_ne c p.j hp.1 hp.2
  have hof := ofs_up c p.j hp.2
  unfold St
  iintro ⟨#Hrec, HOW, HXP, HWF, HSG, HBS, HOS, HSF, HZO, HMB, HMK, HRF, HMR, HOP⟩
  ihave Hcell := (rec_bar m ρ (up c p.j)) $$ Hrec
  icases Hcell with ⟨%κ, HI, Hr0⟩
  unfold SG
  ihave HSG := (fam2_step1 c (up c p.j) (ofs c) (ofs c) p.j 0 _ _ _ hne hof (Nat.zero_le _) (ofs_inj c)) $$ HSG
  icases HSG with ⟨⟨Hpay, Htok⟩, Hback⟩
  unfold OW
  icases HOW with ⟨%W, HOW⟩
  iapply (wp_sig m ρ c (up c p.j) p.j p.n p.k hne hof (κ := κ) (W := W) (by decide)) $$ [HI HOW Htok Hpay Hr0]
  · iframe # ∗
  iintro HOW
  iapply hk
  ihave HSG := Hback $$ []
  · iempintro
  unfold St SG
  iframe # ∗

theorem lev_bar (c : Dev nD) (n l : ℕ) : Recs m ρ ⊢ MayWait (c : Thread nD τ) (.reg barS) () (owe c 16 n l) :=
  (rec_lev m ρ).trans (mayWait_bar c n l)

/-- The barrier wait: every peer's slots arrive. -/
theorem st_bwait (c : Dev nD) (p : Ph) {α : Type} {kk : PUnit → Prog (TpuEff nD τ sig (Elt F) Λ₀ .tc) α} {Φ : α → sProp 𝕄}
    (hp : p.j = 16 ∧ p.b = false ∧ p.n = 0 ∧ p.k = 1 := by decide)
    (hk : St m ρ c { p with b := true } ⊢ WP c (kk ⟨⟩) Φ) :
    St m ρ c p ⊢ WP c (semWaitWord barS 15#32 >>= kk) Φ := by
  obtain ⟨hj, hb, hn, hk1⟩ := hp
  obtain ⟨ns, nw, j, b, no, n, s, k, u, v, y, z, o⟩ := p
  simp only at hj hb hn hk1 hk
  subst hj hb hn hk1
  have h := fun (κ : ℕ) (W : Waits sig Unit) => Rounds.wp_wait_rest_token 𝒱₀ ER (rd (F := F) m ρ) (c : Thread nD τ) none (Γ := .empty) (defs := defs₀ (F := F)) (κ := κ) (W := W) (Q := Φ) (k := kk)
      (wpE_semWait_eq (sem := barS) (k := 15) 𝒱₀ (c : Thread nD τ) none Set.univ)
      (Set.mem_univ _) () (O := owe c 16 0 1) (R := 0) (m := 0) (T := ∅) (by rw [Nat.zero_add]; exact (expect_bar m ρ c).symm)
  simp only [rest_bar] at h
  unfold St
  iintro ⟨#Hrec, HOW, HXP, HWF, HSG, HBS, HOS, HSF, HZO, HMB, HMK, HRF, HMR, HOP⟩
  ihave Hcell := (rec_bar m ρ c) $$ Hrec
  icases Hcell with ⟨%κ, HI, Hr0⟩
  ihave Hlev := (lev_bar m ρ c 0 1) $$ Hrec
  unfold OW
  icases HOW with ⟨%W, HOW⟩
  simp only [BS]
  icases HBS with ⟨Hc, Hat⟩
  iapply (h κ W) $$ [HI Hc HOW Hlev Hat]
  · iframe # ∗
  unfold barPay
  rw [bigSep_sep']
  iintro ⟨HOW, Hat, Hr, Hp1, Hp2⟩
  ihave Hp1 := (Entails.of_eq (fam2_start c c (rk c) (rk c) 0 0 (fun d => iprop(∃ f, rPt d c f)) (fun _ => iprop(emp)) (fun _ => iprop(emp))
    (fun d hd => Nat.zero_le _)).symm) $$ Hp1
  ihave Hp2 := (Entails.of_eq (fam2_start c c (ofs c) (ofs c) 1 0 (fun d => iprop(∃ f, zPt d c f)) (fun _ => iprop(emp)) (fun _ => iprop(emp))
    (fun d hd => ofs_pos c d hd)).symm) $$ Hp2
  iapply hk
  unfold St OW
  simp only [BS]
  iframe # ∗
  iexists _; iexact HOW

end Cert.Exchange
-- ==== Proof.Steps2.lean ====
/-
# The steps of the body: the pieces
-/
module

public import proofs.«01_k».proof.Proof.Steps1

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The own piece -/

theorem rk_self (c : Dev nD) : rk c c = 12 + c.val % 4 := by
  have h := c.isLt; change c.val < 16 at h
  simp only [rk]; omega

/-- The piece a device keeps, in the order of production. -/
theorem PV_dq (c : Dev nD) (q : ℕ) (hq : q < 16) : PV m ρ c (dq c q) = PP (q % 4) (CB m ρ c (q / 4)) := by
  unfold PV
  rw [rk_dq c q hq, show (dq c q).val % 4 = q % 4 by show (((c.val / 4 + 1 + q / 4) % 4) * 4 + q % 4) % 4 = q % 4; omega]

theorem OS_own (c : Dev nD) (no : ℕ) (h : rk c c = no) : OS m ρ c no ⊢ iprop((∃ f, rPt c c f) ∗ (rPt c c (RV m ρ c) -∗ OS m ρ c (no + 1))) := by
  unfold OS
  rw [if_neg (by omega), if_pos (by omega)]
  iintro H
  isplitl [H]; · iexact H
  iintro H; iexact H

/-- The conditional store of the device's own piece. -/
theorem st_own (c : Dev nD) (p : Ph) {α : Type} {R : Prog (TpuEff nD τ sig (Elt F) Λ₀ .tc) α} {Φ : α → sProp 𝕄}
    {C : Dev nD → BitVec 1} {oO : Dev nD → Fin 3 → ℕ} {inb : C c = 1#1 → ∀ a, oO c a + S1x256x128.size a ≤ S16x256x128.size a}
    {v : FVec F S1x256x128 .bf16} {hl : ∀ h : C c = 1#1, _} {hx : ∀ h : C c = 1#1, _}
    (hno : p.no < 16 := by decide)
    (hC : ∀ c, C c = 1#1 ↔ rk c c = p.no := by decide +kernel)
    (hO : ∀ c, C c = 1#1 → oO c = ![c.val, 0, 0] := by decide +kernel)
    (hv : v = PP (p.no % 4) (CB m ρ c (p.no / 4)) := by rfl)
    (hk : St m ρ c { p with no := p.no + 1 } ⊢ WP c R Φ) :
    St m ρ c p ⊢ WP c (if h : C c = 1#1 then
        Prog.lift (.load rM (Rect.unit (s := S16x256x128) (oO c) S1x256x128.size (inb h)).toLoadRect (hl h)) >>= fun _ =>
        Prog.lift (.store rM (Rect.unit (s := S16x256x128) (oO c) S1x256x128.size (inb h)) v Finset.univ (hx h) (.inl rfl)) >>= fun _ => R
      else R) Φ := by
  have hC' := hC c
  by_cases h : C c = 1#1
  · rw [dif_pos h]
    have hr := hC'.mp h
    have hO' := hO c h
    clear hC hO hC'
    have inb := inb h
    have hl := hl h
    have hx := hx h
    generalize oO c = o at *
    subst hO'
    have hd : dq c p.no = c := by rw [← hr]; exact dq_rk c c
    have hvv : v = PV m ρ c c := hv.trans ((PV_dq m ρ c p.no hno).symm.trans (by rw [hd]))
    subst hvv
    unfold St
    iintro ⟨#Hrec, HOW, HXP, HWF, HSG, HBS, HOS, HSF, HZO, HMB, HMK, HRF, HMR, HOP⟩
    ihave HOS := (OS_own m ρ c p.no hr) $$ HOS
    icases HOS with ⟨⟨%f, HOS⟩, Hback⟩
    unfold rPt
    iapply (wp_load 𝒱₀ (c : Thread nD τ) none Set.univ (m := rM) (S := (rSlot c).set) (fun x hx => by
      obtain ⟨y, hy, rfl⟩ := Finset.mem_map.mp hx; exact hy)) $$ HOS
    iintro HOS
    iapply (wp_store 𝒱₀ (c : Thread nD τ) none Set.univ (m := rM) (r := rSlot c) (S := (rSlot c).set) (Mk := Finset.univ)
      (Finset.Subset.trans (Finset.Subset.refl _) (View.set_slice_whole _ _).le)) $$ HOS
    iintro HOS
    iapply hk
    ihave HOS := (Entails.of_eq (rPt_store m ρ c f)) $$ HOS
    unfold rPt
    ihave HOS := Hback $$ HOS
    unfold St
    iframe # ∗
  · rw [dif_neg h]
    have hr : ¬ rk c c = p.no := fun e => h (hC'.mpr e)
    have e : OS m ρ c p.no = OS m ρ c (p.no + 1) := by
      unfold OS
      rcases Nat.lt_or_ge (rk c c) p.no with h1 | h1
      · rw [if_pos h1, if_pos (by omega)]
      · rw [if_neg (by omega), if_neg (by omega)]
    unfold St at hk ⊢
    rw [e]
    exact hk

/-! ## The pieces sent -/

/-- The send of a piece: its slot and the slot it writes are in flight. -/
theorem wp_psend (c d : Dev nD) (j n k : ℕ) (hd : d ≠ c) (hn : rk c d = n) {α : Type} {kk : PUnit → Prog (TpuEff nD τ sig (Elt F) Λ₀ .tc) α} {Φ : α → sProp 𝕄}
    {κ₁ κ₂ : ℕ} {W : Waits sig Unit} (f : Buf (Elt F) (lR d)) {hsrc hdst hsem} :
    iprop(cellInv ER (rd m ρ) κ₁ (dCell c (qS d)) ∗ cellInv ER (rd m ρ) κ₂ (dCell d (qR c)) ∗ sPt c d (SV m ρ c) ∗ rPt d c f ∗ owes (c : Thread nD τ) (owe c j n k) W
        ∗ dutyTok ER (dCell c (qS d)) 0 0 ∗ reached ER (dCell c (qS d)) 0 ∗ dutyTok ER (dCell d (qR c)) 0 0 ∗ reached ER (dCell d (qR c)) 0)
      ⊢ iprop(((cred (tallyAt (dCell c (qS d)) () NP) ∗ OW c j (n + 1) k) -∗ WP c (kk ⟨⟩) Φ)
          -∗ WP c (.op (.enqueueDma (sSl d) (.remote (Dev.tc d) (rSl c) (.dma (qS d))) (.dma (qR c)) hsrc hdst hsem) kk) Φ) := by
  have h := Rounds.wp_send_pointsTo 𝒱₀ ER (rd (F := F) m ρ) (c : Thread nD τ) none (Γ := .empty) (κ₁ := κ₁) (κ₂ := κ₂) (src := sSl d) (dst := rSl c)
    (c' := (d : Thread nD τ)) (sS := .dma (qS d)) (sem := .dma (qR c)) (W := W)
    (defs := defs₀ (F := F)) (hsrc := hsrc) (hdst := hdst) (hsem := hsem) (k := kk) (Q := Φ) (q := fullShare) (fs := SV m ρ c) (fd := f) (r₁ := 0) (r₂ := 0) (d₁ := 0) (d₂ := 0)
    (by rw [duties_peer m ρ c (qS d) (qS_rng d).1 (by rw [dOf_S]; exact hd)]; exact Finset.mem_singleton_self _)
    (by rw [duties_peer m ρ d (qR c) (qR_rng c).1 (by rw [dOf_R]; exact fun e => hd e.symm)]; exact Finset.mem_singleton_self _)
    () () NP rfl (amount_S m ρ c d 0 0) (amount_R m ρ d c 0 0) (owe c j (n + 1) k) (owe_send c d j n k hd hn)
    (by rw [payload_S, sSl_set]; exact BI.Entails.refl _)
    (by rw [payload_R, rSl_set]; exact Entails.of_eq (rPt_land m ρ c d f)) (Es := Set.univ)
  rw [sSl_set, rSl_set] at h
  unfold sPt rPt
  iintro H Hk
  iapply h $$ H
  iintro ⟨Hc, HO⟩
  iapply Hk
  unfold OW
  isplitl [Hc]; · iexact Hc
  iexists _; iexact HO

/-- The store and send of the piece another device keeps. -/
theorem st_sendp (c : Dev nD) (p : Ph) {α : Type} {R : Prog (TpuEff nD τ sig (Elt F) Λ₀ .tc) α} {Φ : α → sProp 𝕄}
    {oS oD oE : Fin 3 → ℕ} {inbS : ∀ a, oS a + S1x256x128.size a ≤ S16x256x128.size a}
    {inbD : ∀ a, oD a + S1x256x128.size a ≤ S16x256x128.size a} {inbE : ∀ a, oE a + S1x256x128.size a ≤ S16x256x128.size a}
    {qs qr : DmaSem sig} {dv : ℕ} {dlt : dv < nD} {v : FVec F S1x256x128 .bf16} {hl hx hsrc hdst}
    (hp : p.n < 16 ∧ p.y = 1 ∧ p.b = true) (hr : rk c c ≠ p.n)
    (hS : oS = ![(dq c p.n).val, 0, 0]) (hD : oD = ![c.val, 0, 0]) (hE : oE = ![(dq c p.n).val, 0, 0])
    (hqs : qs = qS (dq c p.n)) (hqr : qr = qR c) (hdv : dv = (dq c p.n).val)
    (hv : v = PP (p.n % 4) (CB m ρ c (p.n / 4)))
    (hk : St m ρ c { p with n := p.n + 1 } ⊢ WP c R Φ) :
    St m ρ c p ⊢ WP c (Prog.lift (.load sM (Rect.unit (s := S16x256x128) oS S1x256x128.size inbS).toLoadRect hl) >>= fun _ =>
        Prog.lift (.store sM (Rect.unit (s := S16x256x128) oS S1x256x128.size inbS) v Finset.univ hx (.inl rfl)) >>= fun _ =>
        Prog.lift (.enqueueDma ((sM.slice (Rect.unit (s := S16x256x128) oE S1x256x128.size inbE) (fun _ => rfl)).squeeze S256x128 squeezes_S1x256x128_S256x128)
          (.remote (Dev.tc (⟨dv, dlt⟩ : Dev nD)) ((rM.slice (Rect.unit (s := S16x256x128) oD S1x256x128.size inbD) (fun _ => rfl)).squeeze S256x128 squeezes_S1x256x128_S256x128)
            (.dma qs)) (.dma qr) hsrc hdst ⟨⟨rfl, Or.inl rfl⟩, trivial⟩) >>= fun _ => R) Φ := by
  obtain ⟨hn16, hy, hb⟩ := hp
  have hne : dq c p.n ≠ c := fun e => hr (by rw [← rk_dq c p.n hn16, e])
  have hrk : rk c (dq c p.n) = p.n := rk_dq c p.n hn16
  have hvv : v = PV m ρ c (dq c p.n) := hv.trans (PV_dq m ρ c p.n hn16).symm
  clear hv
  generalize dq c p.n = d at *
  subst hS hD hE hdv hqs hqr hvv
  obtain ⟨ns, nw, j, b, no, n, s, k, u, v, y, z, o⟩ := p
  simp only at hy hb hn16 hrk hk
  subst hy hb
  unfold St
  simp only [BS]
  iintro ⟨#Hrec, HOW, HXP, HWF, HSG, ⟨Hbat, HB1, HB2⟩, HOS, HSF, HZO, HMB, HMK, HRF, HMR, HOP⟩
  unfold SF
  ihave HSF := (fam2_step1 c d (rk c) (ofs c) n 1 _ _ _ hne hrk (ofs_pos c d hne) (rk_inj c)) $$ HSF
  icases HSF with ⟨⟨⟨%f, HS⟩, Ht1, Ht2, Hat⟩, Hback⟩
  ihave HB1 := (fam2_step1 c d (rk c) (rk c) n 0 _ _ _ hne hrk (Nat.zero_le _) (rk_inj c)) $$ HB1
  icases HB1 with ⟨⟨%g, Hg⟩, HB1⟩
  ihave HB1 := HB1 $$ []
  · iempintro
  ihave Hc1 := (rec_S m ρ c d) $$ Hrec
  icases Hc1 with ⟨%κ₁, HI1, Hr1⟩
  ihave Hc2 := (rec_R m ρ d c) $$ Hrec
  icases Hc2 with ⟨%κ₂, HI2, Hr2⟩
  unfold OW
  icases HOW with ⟨%W, HOW⟩
  unfold sPt
  iapply (wp_load 𝒱₀ (c : Thread nD τ) none Set.univ (m := sM) (S := (rSlot d).set) (fun x hx => by
    obtain ⟨y, hy, rfl⟩ := Finset.mem_map.mp hx; exact hy)) $$ HS
  iintro HS
  iapply (wp_store 𝒱₀ (c : Thread nD τ) none Set.univ (m := sM) (r := rSlot d) (S := (rSlot d).set) (Mk := Finset.univ)
    (Finset.Subset.trans (Finset.Subset.refl _) (View.set_slice_whole _ _).le)) $$ HS
  iintro HS
  ihave HS := (Entails.of_eq (sPt_store m ρ c d f)) $$ HS
  iapply (wp_psend m ρ c d j n k hne hrk (κ₁ := κ₁) (κ₂ := κ₂) (W := W) g) $$ [HI1 HI2 HS Hg HOW Ht1 Hr1 Ht2 Hr2]
  · iframe # ∗
  iintro ⟨Hc, HOW⟩
  iapply hk
  ihave HSF := Hback $$ [Hc Hat]
  · iframe
  unfold St SF sPt
  simp only [BS]
  iframe # ∗

/-- The same under its condition: no device sends to itself. -/
theorem st_send (c : Dev nD) (p : Ph) {α : Type} {R : Prog (TpuEff nD τ sig (Elt F) Λ₀ .tc) α} {Φ : α → sProp 𝕄}
    {C : Dev nD → BitVec 1} {oS oD oE : Dev nD → Fin 3 → ℕ} {inbS : C c = 1#1 → ∀ a, oS c a + S1x256x128.size a ≤ S16x256x128.size a}
    {inbD : C c = 1#1 → ∀ a, oD c a + S1x256x128.size a ≤ S16x256x128.size a} {inbE : C c = 1#1 → ∀ a, oE c a + S1x256x128.size a ≤ S16x256x128.size a}
    {qs qr : ∀ c : Dev nD, C c = 1#1 → DmaSem sig} {dv : Dev nD → ℕ} {dlt : C c = 1#1 → dv c < nD}
    {v : FVec F S1x256x128 .bf16} {hl : ∀ h : C c = 1#1, _} {hx : ∀ h : C c = 1#1, _} {hsrc : ∀ h : C c = 1#1, _} {hdst : ∀ h : C c = 1#1, _}
    (hp : p.n < 16 ∧ p.y = 1 ∧ p.b = true := by decide)
    (hC : ∀ c, C c = 1#1 ↔ rk c c ≠ p.n := by decide +kernel)
    (hS : ∀ c, C c = 1#1 → oS c = ![(dq c p.n).val, 0, 0] := by decide +kernel)
    (hD : ∀ c, C c = 1#1 → oD c = ![c.val, 0, 0] := by decide +kernel)
    (hE : ∀ c, C c = 1#1 → oE c = ![(dq c p.n).val, 0, 0] := by decide +kernel)
    (hqs : ∀ c h, qs c h = qS (dq c p.n) := by decide +kernel)
    (hqr : ∀ c h, qr c h = qR c := by decide +kernel)
    (hdv : ∀ c, C c = 1#1 → dv c = (dq c p.n).val := by decide +kernel)
    (hv : v = PP (p.n % 4) (CB m ρ c (p.n / 4)) := by rfl)
    (hk : St m ρ c { p with n := p.n + 1 } ⊢ WP c R Φ) :
    St m ρ c p ⊢ WP c (if h : C c = 1#1 then
        Prog.lift (.load sM (Rect.unit (s := S16x256x128) (oS c) S1x256x128.size (inbS h)).toLoadRect (hl h)) >>= fun _ =>
        Prog.lift (.store sM (Rect.unit (s := S16x256x128) (oS c) S1x256x128.size (inbS h)) v Finset.univ (hx h) (.inl rfl)) >>= fun _ =>
        Prog.lift (.enqueueDma ((sM.slice (Rect.unit (s := S16x256x128) (oE c) S1x256x128.size (inbE h)) (fun _ => rfl)).squeeze S256x128 squeezes_S1x256x128_S256x128)
          (.remote (Dev.tc (⟨dv c, dlt h⟩ : Dev nD)) ((rM.slice (Rect.unit (s := S16x256x128) (oD c) S1x256x128.size (inbD h)) (fun _ => rfl)).squeeze S256x128 squeezes_S1x256x128_S256x128)
            (.dma (qs c h))) (.dma (qr c h)) (hsrc h) (hdst h) ⟨⟨rfl, Or.inl rfl⟩, trivial⟩) >>= fun _ => R
      else R) Φ := by
  by_cases h : C c = 1#1
  · rw [dif_pos h]
    exact st_sendp m ρ c p hp ((hC c).mp h) (hS c h) (hD c h) (hE c h) (hqs c h) (hqr c h) (hdv c h) hv hk
  · rw [dif_neg h]
    have hr : rk c c = p.n := Decidable.not_not.mp fun e => h ((hC c).mpr e)
    have e1 : SF m ρ c p.n p.y = SF m ρ c (p.n + 1) p.y := fam2_skip c c _ _ _ _ _ _ _ hr (rk_inj c)
    have e2 : BS (F := F) c p.b p.n p.k = BS c p.b (p.n + 1) p.k := by
      rw [hp.2.2]; simp only [BS]
      rw [show fam c (rk c) p.n (fun d => iprop(∃ f, rPt (F := F) d c f)) (fun _ => iprop(emp)) = fam c (rk c) (p.n + 1) (fun d => iprop(∃ f, rPt d c f)) (fun _ => iprop(emp))
        from fam2_skip c c _ _ _ _ _ _ _ hr (rk_inj c)]
    unfold St OW at hk ⊢
    rw [e1, e2, owe_skip c p.j p.n p.k hr]
    exact hk

end Cert.Exchange
-- ==== Proof.Steps3.lean ====
/-
# The steps of the body: the maxima
-/
module

public import proofs.«01_k».proof.Proof.Steps2

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The device's own maximum -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- Its maximum is spread over the buffer and read back. -/
theorem st_max (c : Dev nD) (p : Ph) {α : Type} {kk : Vec F S8x128 .f32 → Prog (TpuEff nD τ sig (Elt F) Λ₀ .tc) α} {Φ : α → sProp 𝕄}
    {i1 i2 i3} {hl hx hl'} {w : Vec F S8x128 .f32} (hs : p.s = 0 := by rfl) (hw : w = MX m ρ c := by rfl)
    (hk : St m ρ c { p with s := 1 } ⊢ WP c (kk (MX m ρ c)) Φ) :
    St m ρ c p ⊢ WP c (Prog.lift (.load mM (Rect.unit (s := S8x128) ![0, 0] S8x128.size i1).toLoadRect hl) >>= fun _ =>
        Prog.lift (.store mM (Rect.unit (s := S8x128) ![0, 0] S8x128.size i2) w Finset.univ hx (.inl rfl)) >>= fun _ =>
        Prog.lift (.load mM (Rect.unit (s := S8x128) ![0, 0] S8x128.size i3).toLoadRect hl') >>= kk) Φ := by
  subst hw
  obtain ⟨ns, nw, j, b, no, n, s, k, u, v, y, z, o⟩ := p
  simp only at hs hk
  subst hs
  unfold St
  simp only [MB, ZO]
  iintro ⟨#Hrec, HOW, HXP, HWF, HSG, HBS, HOS, HSF, HZO, ⟨%f, HM⟩, HMK, HRF, HMR, HOP⟩
  iapply (wp_load 𝒱₀ (c : Thread nD τ) none Set.univ (m := mM) (Finset.subset_univ _)) $$ HM
  iintro HM
  iapply (wp_store 𝒱₀ (c : Thread nD τ) none Set.univ (m := mM) (r := Rect.unit (s := S8x128) ![0, 0] S8x128.size i2) (S := Finset.univ) (Mk := Finset.univ) (Finset.subset_univ _)) $$ HM
  iintro HM
  ihave HM := (Entails.of_eq (congrArg (fun g => (lM c ↦{fullShare} g : sProp 𝕄)) (Memref.write_access_unit_zero_univ (Elt F) cc0_scratch2 hz2 i2 f (MX m ρ c)))) $$ HM
  iapply (wp_load 𝒱₀ (c : Thread nD τ) none Set.univ (m := mM) (Finset.subset_univ _)) $$ HM
  iintro HM
  rw [show mM.view.readAt (Elt F) (Rect.unit (s := S8x128) ![0, 0] S8x128.size i3).toLoadRect (MX m ρ c) = MX m ρ c from
    Memref.readAt_unit_zero (Elt F) cc0_scratch2 hz2 _ _]
  iapply hk
  unfold St
  simp only [MB, ZO]
  iframe # ∗

theorem MB_start (c : Dev nD) : (lM c ↦{fullShare} MX m ρ c : sProp 𝕄) = MB m ρ c 2 1 1 := by
  simp only [MB]
  rw [fam2_start c c (ofs c) (ofs c) 1 1 _ _ _ fun d hd => ofs_pos c d hd]
  rw [show (lM c ↦{fullShare} MX m ρ c : sProp 𝕄) = _ from share_split Finset.univ (MX m ρ c) 16, range_fin, bs_erase (Finset.mem_univ c)]
  rfl

/-- It is stored into the device's own slot; the buffer is then shared out, one share per receiver. -/
theorem st_zown (c : Dev nD) (p : Ph) {α : Type} {kk : PUnit → Prog (TpuEff nD τ sig (Elt F) Λ₀ .tc) α} {Φ : α → sProp 𝕄}
    {oZ : Dev nD → Fin 3 → ℕ} {inb : ∀ a, oZ c a + S1x8x128.size a ≤ S16x8x128.size a} {hl hx} {w : Vec F S1x8x128 .f32}
    (hs : p.s = 1 ∧ p.k = 1 ∧ p.z = 1 := by decide) (hw : w = k0_pay65 (MX m ρ c) := by rfl)
    (hO : ∀ c, oZ c = ![c.val, 0, 0] := by decide +kernel)
    (hk : St m ρ c { p with s := 2 } ⊢ WP c (kk ⟨⟩) Φ) :
    St m ρ c p ⊢ WP c (Prog.lift (.load zM (Rect.unit (s := S16x8x128) (oZ c) S1x8x128.size inb).toLoadRect hl) >>= fun _ =>
        Prog.lift (.store zM (Rect.unit (s := S16x8x128) (oZ c) S1x8x128.size inb) w Finset.univ hx (.inl rfl)) >>= kk) Φ := by
  subst hw
  obtain ⟨ns, nw, j, b, no, n, s, k, u, v, y, z, o⟩ := p
  simp only at hs hk
  obtain ⟨hs, hk1, hz⟩ := hs
  subst hs hk1 hz
  have hO' := hO c
  clear hO
  generalize oZ c = o' at *
  subst hO'
  unfold St
  simp only [show MB m ρ c 1 1 1 = MB m ρ c 2 1 1 from MB_start m ρ c, ZO]
  iintro ⟨#Hrec, HOW, HXP, HWF, HSG, HBS, HOS, HSF, ⟨%f, HZ⟩, HMB, HMK, HRF, HMR, HOP⟩
  unfold zPt
  iapply (wp_load 𝒱₀ (c : Thread nD τ) none Set.univ (m := zM) (S := (rZ c).set) (fun x hx => by
    obtain ⟨y, hy, rfl⟩ := Finset.mem_map.mp hx; exact hy)) $$ HZ
  iintro HZ
  iapply (wp_store 𝒱₀ (c : Thread nD τ) none Set.univ (m := zM) (r := rZ c) (S := (rZ c).set) (Mk := Finset.univ)
    (Finset.Subset.trans (Finset.Subset.refl _) (View.set_slice_whole _ _).le)) $$ HZ
  iintro HZ
  ihave HZ := (Entails.of_eq (zPt_store m ρ c f)) $$ HZ
  iapply hk
  unfold St
  simp only [ZO]
  iframe # ∗

/-! ## The maximum sent -/

theorem wp_msend (c d : Dev nD) (j n k : ℕ) (hd : d ≠ c) (hn : ofs c d = k) {α : Type} {kk : PUnit → Prog (TpuEff nD τ sig (Elt F) Λ₀ .tc) α} {Φ : α → sProp 𝕄}
    {κ₁ κ₂ : ℕ} {W : Waits sig Unit} (f : Buf (Elt F) (lZ d)) {hsrc hdst hsem} :
    iprop(cellInv ER (rd m ρ) κ₁ (dCell c (qMS d)) ∗ cellInv ER (rd m ρ) κ₂ (dCell d (qMR c)) ∗ mPt m ρ c d ∗ zPt d c f ∗ owes (c : Thread nD τ) (owe c j n k) W
        ∗ dutyTok ER (dCell c (qMS d)) 0 0 ∗ reached ER (dCell c (qMS d)) 0 ∗ dutyTok ER (dCell d (qMR c)) 0 0 ∗ reached ER (dCell d (qMR c)) 0)
      ⊢ iprop(((cred (tallyAt (dCell c (qMS d)) () NZ) ∗ OW c j n (k + 1)) -∗ WP c (kk ⟨⟩) Φ)
          -∗ WP c (.op (.enqueueDma mM (.remote (Dev.tc d) (zSl c) (.dma (qMS d))) (.dma (qMR c)) hsrc hdst hsem) kk) Φ) := by
  have h := Rounds.wp_send_pointsTo 𝒱₀ ER (rd (F := F) m ρ) (c : Thread nD τ) none (Γ := .empty) (κ₁ := κ₁) (κ₂ := κ₂) (src := mM) (dst := zSl c)
    (c' := (d : Thread nD τ)) (sS := .dma (qMS d)) (sem := .dma (qMR c)) (W := W)
    (defs := defs₀ (F := F)) (hsrc := hsrc) (hdst := hdst) (hsem := hsem) (k := kk) (Q := Φ) (q := shA d.val) (fs := MX m ρ c) (fd := f) (r₁ := 0) (r₂ := 0) (d₁ := 0) (d₂ := 0)
    (by rw [duties_peer m ρ c (qMS d) (qMS_rng d).1 (by rw [dOf_MS]; exact hd)]; exact Finset.mem_singleton_self _)
    (by rw [duties_peer m ρ d (qMR c) (qMR_rng c).1 (by rw [dOf_MR]; exact fun e => hd e.symm)]; exact Finset.mem_singleton_self _)
    () () NZ rfl (amount_MS m ρ c d 0 0) (amount_MR m ρ d c 0 0) (owe c j n (k + 1)) (owe_max c d j n k hd hn)
    (by rw [payload_MS, View.set_whole]; exact BI.Entails.refl _)
    (by rw [payload_MR, zSl_set]; exact Entails.of_eq (zPt_land m ρ c d f)) (Es := Set.univ)
  rw [View.set_whole, zSl_set] at h
  unfold mPt zPt
  iintro H Hk
  iapply h $$ H
  iintro ⟨Hc, HO⟩
  iapply Hk
  unfold OW
  isplitl [Hc]; · iexact Hc
  iexists _; iexact HO

theorem st_msend (c : Dev nD) (p : Ph) {α : Type} {kk : PUnit → Prog (TpuEff nD τ sig (Elt F) Λ₀ .tc) α} {Φ : α → sProp 𝕄}
    {oD : Dev nD → Fin 3 → ℕ} {inbD : ∀ a, oD c a + S1x8x128.size a ≤ S16x8x128.size a} {qs qr : Dev nD → DmaSem sig} {dv : Dev nD → ℕ} {dlt : dv c < nD} {hsrc hdst}
    (hp : p.k < 16 ∧ 0 < p.k ∧ p.z = 1 ∧ p.b = true ∧ p.s = 2 := by decide)
    (hD : ∀ c, oD c = ![c.val, 0, 0] := by decide +kernel)
    (hqs : ∀ c, qs c = qMS (up c p.k) := by decide +kernel) (hqr : ∀ c, qr c = qMR c := by decide +kernel)
    (hdv : ∀ c, dv c = (up c p.k).val := by decide +kernel)
    (hk : St m ρ c { p with k := p.k + 1 } ⊢ WP c (kk ⟨⟩) Φ) :
    St m ρ c p ⊢ WP c (Prog.lift (.enqueueDma mM (.remote (Dev.tc (⟨dv c, dlt⟩ : Dev nD))
        ((zM.slice (Rect.unit (s := S16x8x128) (oD c) S1x8x128.size inbD) (fun _ => rfl)).squeeze S8x128 squeezes_S1x8x128_S8x128)
        (.dma (qs c))) (.dma (qr c)) hsrc hdst ⟨⟨rfl, Or.inl rfl⟩, trivial⟩) >>= kk) Φ := by
  obtain ⟨ns, nw, j, b, no, n, s, k, u, v, y, z, o⟩ := p
  simp only at hp hk hqs hdv
  obtain ⟨hk16, hk0, hz, hb, hs⟩ := hp
  subst hz hb hs
  have hD' := hD c
  have hqs' := hqs c
  have hqr' := hqr c
  have hdv' := hdv c
  clear hD hqs hqr hdv
  have hne := up_ne c k hk0 hk16
  have hof := ofs_up c k hk16
  generalize up c k = d at *
  have key : ∀ (o' : Fin 3 → ℕ) (inbD : ∀ a, o' a + S1x8x128.size a ≤ S16x8x128.size a) (q1 q2 : DmaSem sig) (n' : ℕ) (dlt : n' < nD)
      (h1 : o' = ![c.val, 0, 0]) (h2 : q1 = qMS d) (h3 : q2 = qMR c) (h4 : n' = d.val) (hsrc hdst),
      St m ρ c ⟨ns, nw, j, true, no, n, 2, k, u, v, y, 1, o⟩ ⊢ WP c (Prog.lift (.enqueueDma mM (.remote (Dev.tc (⟨n', dlt⟩ : Dev nD))
        ((zM.slice (Rect.unit (s := S16x8x128) o' S1x8x128.size inbD) (fun _ => rfl)).squeeze S8x128 squeezes_S1x8x128_S8x128)
        (.dma q1)) (.dma q2) hsrc hdst ⟨⟨rfl, Or.inl rfl⟩, trivial⟩) >>= kk) Φ := by
    intro o' inbD q1 q2 n' dlt h1 h2 h3 h4 hsrc hdst
    subst h1 h2 h3 h4
    unfold St
    simp only [BS, MB, MK]
    iintro ⟨#Hrec, HOW, HXP, HWF, HSG, ⟨Hbat, HB1, HB2⟩, HOS, HSF, HZO, ⟨HM1, HM2, HM3⟩, HMK, HRF, HMR, HOP⟩
    ihave HMK := (fam2_step1 c d (ofs c) (ofs c) k 1 _ _ _ hne hof (ofs_pos c d hne) (ofs_inj c)) $$ HMK
    icases HMK with ⟨⟨Ht1, Ht2, Hat⟩, Hback⟩
    ihave HM3 := (fam2_step1 c d (ofs c) (ofs c) k 1 _ _ _ hne hof (ofs_pos c d hne) (ofs_inj c)) $$ HM3
    icases HM3 with ⟨Hm, HM3⟩
    ihave HM3 := HM3 $$ []
    · iempintro
    ihave HB2 := (fam2_step1 c d (ofs c) (ofs c) k 0 _ _ _ hne hof (Nat.zero_le _) (ofs_inj c)) $$ HB2
    icases HB2 with ⟨⟨%g, Hg⟩, HB2⟩
    ihave HB2 := HB2 $$ []
    · iempintro
    ihave Hc1 := (rec_MS m ρ c d) $$ Hrec
    icases Hc1 with ⟨%κ₁, HI1, Hr1⟩
    ihave Hc2 := (rec_MR m ρ d c) $$ Hrec
    icases Hc2 with ⟨%κ₂, HI2, Hr2⟩
    unfold OW
    icases HOW with ⟨%W, HOW⟩
    iapply (wp_msend m ρ c d j n k hne hof (κ₁ := κ₁) (κ₂ := κ₂) (W := W) g) $$ [HI1 HI2 Hm Hg HOW Ht1 Hr1 Ht2 Hr2]
    · iframe # ∗
    iintro ⟨Hc, HOW⟩
    iapply hk
    ihave HMK := Hback $$ [Hc Hat]
    · iframe
    unfold St
    simp only [BS, MB, MK]
    iframe # ∗
  exact key _ _ _ _ _ _ hD' hqs' hqr' hdv' _ _

end Cert.Exchange
-- ==== Proof.Steps4.lean ====
/-
# The steps of the body: the waits and the result
-/
module

public import proofs.«01_k».proof.Proof.Steps3

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## The waits for pieces and maxima -/

theorem lev_end (c : Dev nD) (sm : SemLoc sig) : Recs m ρ ⊢ MayWait (c : Thread nD τ) sm () (owe c 16 16 16) :=
  (rec_lev m ρ).trans (mayWait_zero' c sm)

/-- A wait on one of the four families of peer cells, after every send. -/
theorem wp_pwait (c : Dev nD) (q : DmaSem sig) (N : ℕ) {α : Type} {kk : PUnit → Prog (TpuEff nD τ sig (Elt F) Λ₀ .tc) α} {Φ : α → sProp 𝕄}
    {κ : ℕ} {sp sp' : Space} {s s' : Shape} {e e' : EltTy}
    {src : Memref sig .tc sp' s' e'} {dst : Memref sig .tc sp s e} {hsrc : src.view.WordExact} {hdst : dst.view.WordExact}
    (hN : dst.view.dmaCredit = N) (hq : ¬ q.val < 10) (hd : dOf (q.val + 6) ≠ c) (he : (rd (F := F) m ρ).expect (dCell c q) 0 = N)
    {P : sProp 𝕄} (hP : (rd (F := F) m ρ).payload (dCell c q) 0 0 = P) :
    iprop(Recs m ρ ∗ cellInv ER (rd m ρ) κ (dCell c q) ∗ OW c 16 16 16 ∗ (cred (tallyAt (dCell c q) () N) ∗ atPos ER (dCell c q) 0 ∅ 0))
      ⊢ iprop((OW c 16 16 16 ∗ atPos ER (dCell c q) 1 ∅ 0 ∗ P -∗ WP c (kk ⟨⟩) Φ)
          -∗ WP c (.op (.waitDma2 q src dst hsrc hdst) kk) Φ) := by
  subst hP
  unfold OW
  iintro ⟨#Hrec, HI, ⟨%W, HOW⟩, Hc, Hat⟩ Hk
  ihave Hlev := (lev_end m ρ c (.dma q)) $$ Hrec
  iapply (wp_dwait m ρ c q N 0 (κ := κ) (W := W) hN (duties_peer m ρ c q hq hd) he) $$ [HI Hc HOW Hlev Hat]
  · iframe # ∗
  iintro ⟨HOW, Hat, Hr, Hp⟩
  iapply Hk
  iframe

/-- The wait for the piece from the device that many places before. -/
theorem st_rwait (c : Dev nD) (p : Ph) {α : Type} {kk : PUnit → Prog (TpuEff nD τ sig (Elt F) Λ₀ .tc) α} {Φ : α → sProp 𝕄}
    {qs : Dev nD → DmaSem sig} {sp sp' : Space} {s s' : Shape} {e e' : EltTy}
    {src : Memref sig .tc sp' s' e'} {dst : Memref sig .tc sp s e} {hsrc : src.view.WordExact} {hdst : dst.view.WordExact}
    (hp : 0 < p.u ∧ p.u < 16 ∧ p.j = 16 ∧ p.n = 16 ∧ p.k = 16 := by decide)
    (hN : dst.view.dmaCredit = NP := by rfl)
    (hqs : ∀ c, qs c = qR (dn c p.u) := by decide +kernel)
    (hk : St m ρ c { p with u := p.u + 1 } ⊢ WP c (kk ⟨⟩) Φ) :
    St m ρ c p ⊢ WP c (Prog.lift (.waitDma2 (qs c) src dst hsrc hdst) >>= kk) Φ := by
  obtain ⟨ns, nw, j, b, no, n, s, k, u, v, y, z, o⟩ := p
  simp only at hp hk hqs
  obtain ⟨h0, h16, hj, hn, hk16⟩ := hp
  subst hj hn hk16
  rw [hqs c]
  have hne := dn_ne c u h0 h16
  have hof := ofs_dn c u h16
  generalize dn c u = d at *
  unfold St
  simp only [RF]
  iintro ⟨#Hrec, HOW, HXP, HWF, HSG, HBS, HOS, HSF, HZO, HMB, HMK, HRF, HMR, HOP⟩
  ihave HRF := (fam2_step1 c d (fun d => ofs d c) (fun d => ofs d c) u 0 _ _ _ hne hof (Nat.zero_le _) (ofs_inj_left c)) $$ HRF
  icases HRF with ⟨Ha, Hback⟩
  ihave Hc1 := (rec_R m ρ c d) $$ Hrec
  icases Hc1 with ⟨%κ, HI, Hr⟩
  iapply (wp_pwait m ρ c (qR d) NP (κ := κ) hN (qR_rng d).1 (by rw [dOf_R]; exact hne) (expect_R m ρ c d hne) (payload_R m ρ c d 0 0)) $$ [HI HOW Ha]
  · iframe # ∗
  iintro ⟨HOW, Hat, Hp⟩
  iapply hk
  ihave HRF := Hback $$ [Hat Hp]
  · iframe
  unfold St
  simp only [RF]
  iframe # ∗

/-- The wait for the maximum from there. -/
theorem st_mwait (c : Dev nD) (p : Ph) {α : Type} {kk : PUnit → Prog (TpuEff nD τ sig (Elt F) Λ₀ .tc) α} {Φ : α → sProp 𝕄}
    {qs : Dev nD → DmaSem sig} {sp sp' : Space} {s s' : Shape} {e e' : EltTy}
    {src : Memref sig .tc sp' s' e'} {dst : Memref sig .tc sp s e} {hsrc : src.view.WordExact} {hdst : dst.view.WordExact}
    (hp : 0 < p.v ∧ p.v < 16 ∧ p.j = 16 ∧ p.n = 16 ∧ p.k = 16 := by decide)
    (hN : dst.view.dmaCredit = NZ := by rfl)
    (hqs : ∀ c, qs c = qMR (dn c p.v) := by decide +kernel)
    (hk : St m ρ c { p with v := p.v + 1 } ⊢ WP c (kk ⟨⟩) Φ) :
    St m ρ c p ⊢ WP c (Prog.lift (.waitDma2 (qs c) src dst hsrc hdst) >>= kk) Φ := by
  obtain ⟨ns, nw, j, b, no, n, s, k, u, v, y, z, o⟩ := p
  simp only at hp hk hqs
  obtain ⟨h0, h16, hj, hn, hk16⟩ := hp
  subst hj hn hk16
  rw [hqs c]
  have hne := dn_ne c v h0 h16
  have hof := ofs_dn c v h16
  generalize dn c v = d at *
  unfold St
  simp only [MR]
  iintro ⟨#Hrec, HOW, HXP, HWF, HSG, HBS, HOS, HSF, HZO, HMB, HMK, HRF, HMR, HOP⟩
  ihave HMR := (fam2_step1 c d (fun d => ofs d c) (fun d => ofs d c) v 0 _ _ _ hne hof (Nat.zero_le _) (ofs_inj_left c)) $$ HMR
  icases HMR with ⟨Ha, Hback⟩
  ihave Hc1 := (rec_MR m ρ c d) $$ Hrec
  icases Hc1 with ⟨%κ, HI, Hr⟩
  iapply (wp_pwait m ρ c (qMR d) NZ (κ := κ) hN (qMR_rng d).1 (by rw [dOf_MR]; exact hne) (expect_MR m ρ c d hne) (payload_MR m ρ c d 0 0)) $$ [HI HOW Ha]
  · iframe # ∗
  iintro ⟨HOW, Hat, Hp⟩
  iapply hk
  ihave HMR := Hback $$ [Hat Hp]
  · iframe
  unfold St
  simp only [MR]
  iframe # ∗

/-- The wait for the send of the piece to the device that many places after. -/
theorem st_swait (c : Dev nD) (p : Ph) {α : Type} {kk : PUnit → Prog (TpuEff nD τ sig (Elt F) Λ₀ .tc) α} {Φ : α → sProp 𝕄}
    {qs : Dev nD → DmaSem sig} {sp sp' : Space} {s s' : Shape} {e e' : EltTy}
    {src : Memref sig .tc sp' s' e'} {dst : Memref sig .tc sp s e} {hsrc : src.view.WordExact} {hdst : dst.view.WordExact}
    (hp : 0 < p.y ∧ p.y < 16 ∧ p.j = 16 ∧ p.n = 16 ∧ p.k = 16 := by decide)
    (hN : dst.view.dmaCredit = NP := by rfl)
    (hqs : ∀ c, qs c = qS (up c p.y) := by decide +kernel)
    (hk : St m ρ c { p with y := p.y + 1 } ⊢ WP c (kk ⟨⟩) Φ) :
    St m ρ c p ⊢ WP c (Prog.lift (.waitDma2 (qs c) src dst hsrc hdst) >>= kk) Φ := by
  obtain ⟨ns, nw, j, b, no, n, s, k, u, v, y, z, o⟩ := p
  simp only at hp hk hqs
  obtain ⟨h0, h16, hj, hn, hk16⟩ := hp
  subst hj hn hk16
  rw [hqs c]
  have hne := up_ne c y h0 h16
  have hof := ofs_up c y h16
  generalize up c y = d at *
  unfold St
  simp only [SF]
  iintro ⟨#Hrec, HOW, HXP, HWF, HSG, HBS, HOS, HSF, HZO, HMB, HMK, HRF, HMR, HOP⟩
  ihave HSF := (fam2_step2 c d (rk c) (ofs c) 16 y _ _ _ hne (rk_lt c d) hof (ofs_inj c)) $$ HSF
  icases HSF with ⟨Ha, Hback⟩
  ihave Hc1 := (rec_S m ρ c d) $$ Hrec
  icases Hc1 with ⟨%κ, HI, Hr⟩
  iapply (wp_pwait m ρ c (qS d) NP (κ := κ) hN (qS_rng d).1 (by rw [dOf_S]; exact hne) (expect_S m ρ c d hne) (payload_S m ρ c d 0 0)) $$ [HI HOW Ha]
  · iframe # ∗
  iintro ⟨HOW, Hat, Hp⟩
  iapply hk
  ihave HSF := Hback $$ [Hat Hp]
  · iframe
  unfold St
  simp only [SF]
  iframe # ∗

/-- The wait for the send of the maximum to there. -/
theorem st_mswait (c : Dev nD) (p : Ph) {α : Type} {kk : PUnit → Prog (TpuEff nD τ sig (Elt F) Λ₀ .tc) α} {Φ : α → sProp 𝕄}
    {qs : Dev nD → DmaSem sig} {sp sp' : Space} {s s' : Shape} {e e' : EltTy}
    {src : Memref sig .tc sp' s' e'} {dst : Memref sig .tc sp s e} {hsrc : src.view.WordExact} {hdst : dst.view.WordExact}
    (hp : 0 < p.z ∧ p.z < 16 ∧ p.j = 16 ∧ p.n = 16 ∧ p.k = 16 ∧ p.s = 2 := by decide)
    (hN : dst.view.dmaCredit = NZ := by rfl)
    (hqs : ∀ c, qs c = qMS (up c p.z) := by decide +kernel)
    (hk : St m ρ c { p with z := p.z + 1 } ⊢ WP c (kk ⟨⟩) Φ) :
    St m ρ c p ⊢ WP c (Prog.lift (.waitDma2 (qs c) src dst hsrc hdst) >>= kk) Φ := by
  obtain ⟨ns, nw, j, b, no, n, s, k, u, v, y, z, o⟩ := p
  simp only at hp hk hqs
  obtain ⟨h0, h16, hj, hn, hk16, hs⟩ := hp
  subst hj hn hk16 hs
  rw [hqs c]
  have hne := up_ne c z h0 h16
  have hof := ofs_up c z h16
  generalize up c z = d at *
  unfold St
  simp only [MK, MB]
  iintro ⟨#Hrec, HOW, HXP, HWF, HSG, HBS, HOS, HSF, HZO, ⟨HM1, HM2, HM3⟩, HMK, HRF, HMR, HOP⟩
  ihave HMK := (fam2_step2 c d (ofs c) (ofs c) 16 z _ _ _ hne (ofs_lt c d) hof (ofs_inj c)) $$ HMK
  icases HMK with ⟨Ha, Hback⟩
  ihave HM3 := (fam2_step2 c d (ofs c) (ofs c) 16 z _ _ _ hne (ofs_lt c d) hof (ofs_inj c)) $$ HM3
  icases HM3 with ⟨He, HM3⟩
  ihave Hc1 := (rec_MS m ρ c d) $$ Hrec
  icases Hc1 with ⟨%κ, HI, Hr⟩
  iapply (wp_pwait m ρ c (qMS d) NZ (κ := κ) hN (qMS_rng d).1 (by rw [dOf_MS]; exact hne) (expect_MS m ρ c d hne) (payload_MS m ρ c d 0 0)) $$ [HI HOW Ha]
  · iframe # ∗
  iintro ⟨HOW, Hat, Hp⟩
  iapply hk
  ihave HMK := Hback $$ Hat
  ihave HM3 := HM3 $$ Hp
  unfold St
  simp only [MK, MB]
  iframe # ∗

/-! ## The last loads and the store of the result -/

theorem slots_disj {s : Shape} {R : Fin 16 → Rect s} (a : Fin s.rank) (h : ∀ d x, x ∈ (R d).set → (x a).val = d.val) :
    ∀ d ∈ (Finset.univ : Finset (Fin 16)), ∀ d' ∈ (Finset.univ : Finset (Fin 16)), d ≠ d' → Disjoint (R d).set (R d').set := by
  intro d _ d' _ hne
  rw [Finset.disjoint_left]
  intro x hx hx'
  exact hne (Fin.ext ((h d x hx).symm.trans (h d' x hx')))

theorem mem_rSlot (d : Fin 16) (x : S16x256x128.Idx) : x ∈ (rSlot d).set ↔ (x 0).val = d.val := by
  have h1 := (x 1).isLt; change (x 1).val < 256 at h1
  have h2 := (x 2).isLt; change (x 2).val < 128 at h2
  refine Rect.mem_set_unit.trans ⟨fun h => ?_, fun h a => ?_⟩
  · have := h 0; change d.val ≤ (x 0).val ∧ (x 0).val < d.val + 1 at this; omega
  · fin_cases a
    · show d.val ≤ (x 0).val ∧ (x 0).val < d.val + 1; omega
    · show 0 ≤ (x 1).val ∧ (x 1).val < 0 + 256; omega
    · show 0 ≤ (x 2).val ∧ (x 2).val < 0 + 128; omega
theorem mem_rZ (d : Fin 16) (x : S16x8x128.Idx) : x ∈ (rZ d).set ↔ (x 0).val = d.val := by
  have h1 := (x 1).isLt; change (x 1).val < 8 at h1
  have h2 := (x 2).isLt; change (x 2).val < 128 at h2
  refine Rect.mem_set_unit.trans ⟨fun h => ?_, fun h a => ?_⟩
  · have := h 0; change d.val ≤ (x 0).val ∧ (x 0).val < d.val + 1 at this; omega
  · fin_cases a
    · show d.val ≤ (x 0).val ∧ (x 0).val < d.val + 1; omega
    · show 0 ≤ (x 1).val ∧ (x 1).val < 0 + 8; omega
    · show 0 ≤ (x 2).val ∧ (x 2).val < 0 + 128; omega

/-- The sixteen slots of each buffer make it up. -/
theorem rPt_all (c : Dev nD) (f : Buf (Elt F) (lR c)) : (bigSep Finset.univ fun d : Dev nD => rPt c d f) = (lR c ↦{fullShare} f : sProp 𝕄) := by
  have h := pointsTo_biUnion (ℓ := lR c) (q := fullShare) (f := f) (Ix := Unit) (Name := ℕ) (U := UU) (Lvl := ℕ) Finset.univ (fun d : Fin 16 => (rSlot d).set)
    (slots_disj (R := rSlot) 0 fun d x hx => (mem_rSlot d x).mp hx)
  rw [show (Finset.univ.biUnion fun d : Fin 16 => (rSlot d).set) = Finset.univ from
    Finset.eq_univ_of_forall fun x => Finset.mem_biUnion.mpr ⟨⟨(x 0).val, (x 0).isLt⟩, Finset.mem_univ _, (mem_rSlot _ x).mpr rfl⟩] at h
  exact h.symm
theorem sPt_all (c : Dev nD) (f : Buf (Elt F) (lS c)) : (bigSep Finset.univ fun d : Dev nD => sPt c d f) = (lS c ↦{fullShare} f : sProp 𝕄) := by
  have h := pointsTo_biUnion (ℓ := lS c) (q := fullShare) (f := f) (Ix := Unit) (Name := ℕ) (U := UU) (Lvl := ℕ) Finset.univ (fun d : Fin 16 => (rSlot d).set)
    (slots_disj (R := rSlot) 0 fun d x hx => (mem_rSlot d x).mp hx)
  rw [show (Finset.univ.biUnion fun d : Fin 16 => (rSlot d).set) = Finset.univ from
    Finset.eq_univ_of_forall fun x => Finset.mem_biUnion.mpr ⟨⟨(x 0).val, (x 0).isLt⟩, Finset.mem_univ _, (mem_rSlot _ x).mpr rfl⟩] at h
  exact h.symm
theorem zPt_all (c : Dev nD) (f : Buf (Elt F) (lZ c)) : (bigSep Finset.univ fun d : Dev nD => zPt c d f) = (lZ c ↦{fullShare} f : sProp 𝕄) := by
  have h := pointsTo_biUnion (ℓ := lZ c) (q := fullShare) (f := f) (Ix := Unit) (Name := ℕ) (U := UU) (Lvl := ℕ) Finset.univ (fun d : Fin 16 => (rZ d).set)
    (slots_disj (R := rZ) 0 fun d x hx => (mem_rZ d x).mp hx)
  rw [show (Finset.univ.biUnion fun d : Fin 16 => (rZ d).set) = Finset.univ from
    Finset.eq_univ_of_forall fun x => Finset.mem_biUnion.mpr ⟨⟨(x 0).val, (x 0).isLt⟩, Finset.mem_univ _, (mem_rZ _ x).mpr rfl⟩] at h
  exact h.symm

theorem sep_asc (A B C : sProp 𝕄) : iprop(A ∗ B ∗ C) = iprop((A ∗ B) ∗ C) := by
  have h1 : iprop(A ∗ B ∗ C) ⊢ iprop((A ∗ B) ∗ C) := by iintro ⟨A, B, C⟩; iframe
  have h2 : iprop((A ∗ B) ∗ C) ⊢ iprop(A ∗ B ∗ C) := by iintro ⟨⟨A, B⟩, C⟩; iframe
  exact BI.Entails.antisymm h1 h2

theorem ZM_all (c : Dev nD) : iprop(ZO m ρ c 2 ∗ MR m ρ c 16)
    = iprop((lZ c ↦{fullShare} ZV m ρ c) ∗ bigSep (Finset.univ.erase c) fun d : Dev nD => atPos ER (dCell c (qMR d)) 1 ∅ 0) := by
  unfold MR
  rw [show fam c (fun d => ofs d c) 16 (fun d => iprop(cred (tallyAt (dCell c (qMR d)) () NZ) ∗ atPos ER (dCell c (qMR d)) 0 ∅ 0))
      (fun d => iprop(zPt c d (ZV m ρ c) ∗ atPos ER (dCell c (qMR d)) 1 ∅ 0)) = _ from
    fam2_mid c c _ _ 16 0 _ _ _ (fun d _ => ofs_lt d c) (fun d _ => Nat.zero_le _), bigSep_sep', ← zPt_all, bs_erase (Finset.mem_univ c) (Φ := fun d : Dev nD => zPt c d (ZV m ρ c))]
  simp only [ZO]
  exact sep_asc _ _ _
theorem RM_all (c : Dev nD) : iprop(OS m ρ c 16 ∗ RF m ρ c 16)
    = iprop((lR c ↦{fullShare} RV m ρ c) ∗ bigSep (Finset.univ.erase c) fun d : Dev nD => atPos ER (dCell c (qR d)) 1 ∅ 0) := by
  unfold RF OS
  rw [show fam c (fun d => ofs d c) 16 (fun d => iprop(cred (tallyAt (dCell c (qR d)) () NP) ∗ atPos ER (dCell c (qR d)) 0 ∅ 0))
      (fun d => iprop(rPt c d (RV m ρ c) ∗ atPos ER (dCell c (qR d)) 1 ∅ 0)) = _ from
    fam2_mid c c _ _ 16 0 _ _ _ (fun d _ => ofs_lt d c) (fun d _ => Nat.zero_le _), bigSep_sep', ← rPt_all, bs_erase (Finset.mem_univ c) (Φ := fun d : Dev nD => rPt c d (RV m ρ c)),
    if_pos (rk_lt c c)]
  exact sep_asc _ _ _

theorem st_zload (c : Dev nD) (p : Ph) {α : Type} {kk : Vec F S16x8x128 .f32 → Prog (TpuEff nD τ sig (Elt F) Λ₀ .tc) α} {Φ : α → sProp 𝕄} {inb hl}
    (hp : p.s = 2 ∧ p.v = 16 := by decide)
    (hk : St m ρ c p ⊢ WP c (kk (ZV m ρ c)) Φ) :
    St m ρ c p ⊢ WP c (Prog.lift (.load zM (Rect.unit (s := S16x8x128) ![0, 0, 0] S16x8x128.size inb).toLoadRect hl) >>= kk) Φ := by
  obtain ⟨ns, nw, j, b, no, n, s, k, u, v, y, z, o⟩ := p
  simp only at hp
  obtain ⟨hs, hv⟩ := hp
  subst hs hv
  unfold St at hk ⊢
  iintro ⟨#Hrec, HOW, HXP, HWF, HSG, HBS, HOS, HSF, HZO, HMB, HMK, HRF, HMR, HOP⟩
  ihave HZ := (Entails.of_eq (ZM_all m ρ c)) $$ [HZO HMR]
  · iframe
  icases HZ with ⟨HZ, Hats⟩
  iapply (wp_load 𝒱₀ (c : Thread nD τ) none Set.univ (m := zM) (Finset.subset_univ _)) $$ HZ
  iintro HZ
  ihave HZ := (Entails.of_eq (ZM_all m ρ c).symm) $$ [HZ Hats]
  · iframe
  icases HZ with ⟨HZO, HMR⟩
  rw [show zM.view.readAt (Elt F) (Rect.unit (s := S16x8x128) ![0, 0, 0] S16x8x128.size inb).toLoadRect (ZV m ρ c) = ZV m ρ c from
    Memref.readAt_unit_zero (Elt F) cc0_scratch4 hz3 _ _]
  iapply hk
  iframe # ∗

theorem st_rload (c : Dev nD) (p : Ph) {α : Type} {kk : Vec F S16x256x128 .bf16 → Prog (TpuEff nD τ sig (Elt F) Λ₀ .tc) α} {Φ : α → sProp 𝕄} {inb hl}
    (hp : p.no = 16 ∧ p.u = 16 := by decide)
    (hk : St m ρ c p ⊢ WP c (kk (RV m ρ c)) Φ) :
    St m ρ c p ⊢ WP c (Prog.lift (.load rM (Rect.unit (s := S16x256x128) ![0, 0, 0] S16x256x128.size inb).toLoadRect hl) >>= kk) Φ := by
  obtain ⟨ns, nw, j, b, no, n, s, k, u, v, y, z, o⟩ := p
  simp only at hp
  obtain ⟨hs, hv⟩ := hp
  subst hs hv
  unfold St at hk ⊢
  iintro ⟨#Hrec, HOW, HXP, HWF, HSG, HBS, HOS, HSF, HZO, HMB, HMK, HRF, HMR, HOP⟩
  ihave HZ := (Entails.of_eq (RM_all m ρ c)) $$ [HOS HRF]
  · iframe
  icases HZ with ⟨HZ, Hats⟩
  iapply (wp_load 𝒱₀ (c : Thread nD τ) none Set.univ (m := rM) (Finset.subset_univ _)) $$ HZ
  iintro HZ
  ihave HZ := (Entails.of_eq (RM_all m ρ c).symm) $$ [HZ Hats]
  · iframe
  icases HZ with ⟨HOS, HRF⟩
  rw [show rM.view.readAt (Elt F) (Rect.unit (s := S16x256x128) ![0, 0, 0] S16x256x128.size inb).toLoadRect (RV m ρ c) = RV m ρ c from
    Memref.readAt_unit_zero (Elt F) cc0_scratch3 hz3 _ _]
  iapply hk
  iframe # ∗

theorem st_out (c : Dev nD) (p : Ph) {α : Type} {kk : PUnit → Prog (TpuEff nD τ sig (Elt F) Λ₀ .tc) α} {Φ : α → sProp 𝕄}
    {i1 i2} {hl hx} {w : Vec F S4096x128 .f32} (ho : p.o = false := by rfl) (hw : w = OV m ρ c := by rfl)
    (hk : St m ρ c { p with o := true } ⊢ WP c (kk ⟨⟩) Φ) :
    St m ρ c p ⊢ WP c (Prog.lift (.load oM (Rect.unit (s := S4096x128) ![0, 0] S4096x128.size i1).toLoadRect hl) >>= fun _ =>
        Prog.lift (.store oM (Rect.unit (s := S4096x128) ![0, 0] S4096x128.size i2) w Finset.univ hx (.inl rfl)) >>= kk) Φ := by
  subst hw
  obtain ⟨ns, nw, j, b, no, n, s, k, u, v, y, z, o⟩ := p
  simp only at ho hk
  subst ho
  unfold St
  simp only [OP]
  iintro ⟨#Hrec, HOW, HXP, HWF, HSG, HBS, HOS, HSF, HZO, HMB, HMK, HRF, HMR, ⟨%f, HM⟩⟩
  iapply (wp_load 𝒱₀ (c : Thread nD τ) none Set.univ (m := oM) (Finset.subset_univ _)) $$ HM
  iintro HM
  iapply (wp_store 𝒱₀ (c : Thread nD τ) none Set.univ (m := oM) (r := Rect.unit (s := S4096x128) ![0, 0] S4096x128.size i2) (S := Finset.univ) (Mk := Finset.univ) (Finset.subset_univ _)) $$ HM
  iintro HM
  ihave HM := (Entails.of_eq (congrArg (fun g => (lO c ↦{fullShare} g : sProp 𝕄)) (Memref.write_access_unit_zero_univ (Elt F) cc0_stg1_0 hz2 i2 f (OV m ρ c)))) $$ HM
  iapply hk
  unfold St
  simp only [OP]
  iframe # ∗

end Cert.Exchange
-- ==== Proof.PartsA.lean ====
/-
# The body up to the first group
-/
module

public import proofs.«01_k».proof.Proof.Steps4

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Stages -/

/-- Copies started and finished, next barrier signal: before the barrier wait. -/
abbrev Pa (ns nw j : ℕ) : Ph := ⟨ns, nw, j, false, 0, 0, 0, 1, 1, 1, 1, 1, false⟩
/-- Copies started and finished, next own piece, next piece sent: after it. -/
abbrev Pb (ns nw no n : ℕ) : Ph := ⟨ns, nw, 16, true, no, n, 0, 1, 1, 1, 1, 1, false⟩
/-- How far the maximum's buffer is, next maximum sent. -/
abbrev Pm (s k : ℕ) : Ph := ⟨16, 16, 16, true, 16, 16, s, k, 1, 1, 1, 1, false⟩
/-- Next piece and next maximum to arrive. -/
abbrev Pr (u v : ℕ) : Ph := ⟨16, 16, 16, true, 16, 16, 2, 16, u, v, 1, 1, false⟩
/-- Next piece sent and next maximum sent to be waited for, result stored or not. -/
abbrev Ps (y z : ℕ) (o : Bool) : Ph := ⟨16, 16, 16, true, 16, 16, 2, 16, 16, 16, y, z, o⟩

theorem st_bind {α β : Type} {c : Dev nD} {P : sProp 𝕄} {X : Prog (TpuEff nD τ sig (Elt F) Λ₀ .tc) β} {kk : β → Prog (TpuEff nD τ sig (Elt F) Λ₀ .tc) α} {Φ : α → sProp 𝕄}
    (h : P ⊢ WP c X (fun a => WP c (kk a) Φ)) : P ⊢ WP c (X >>= kk) Φ := by
  exact h.trans (Entails.of_eq (wp_bind (p := X) (k := kk) ..).symm)
theorem st_pure {α : Type} {c : Dev nD} {P : sProp 𝕄} {a : α} {Φ : α → sProp 𝕄} (h : P ⊢ Φ a) : P ⊢ WP c (pure a) Φ := by
  have h' : P ⊢ wp frame (wpE (defs₀ (F := F)) 𝒱₀ (c : Thread nD τ) none) Set.univ (.ret a) Φ := by
    rw [wp_ret]
    iintro H
    imodintro
    iapply h $$ H
  exact h'
theorem st_devid {α : Type} {c : Dev nD} {P : sProp 𝕄} {kk : Dev nD → Prog (TpuEff nD τ sig (Elt F) Λ₀ .tc) α} {Φ : α → sProp 𝕄}
    (h : P ⊢ WP c (kk c) Φ) : P ⊢ WP c (Prog.lift .deviceId >>= kk) Φ := by
  have h' : P ⊢ wp frame (wpE (defs₀ (F := F)) 𝒱₀ (c : Thread nD τ) none) Set.univ (.op .deviceId kk) Φ := by
    rw [wp_deviceId]; exact h
  exact h'

attribute [local irreducible] wp

variable {hx : xM.IsWhole} {ha : aM.IsWhole} {ho : oM.IsWhole} {hw : wM.IsWhole} {hs : sM.IsWhole} {hm : mM.IsWhole} {hr : rM.IsWhole} {hz : zM.IsWhole}

/-- The first copies of the weights. -/
theorem part1 (c : Dev nD) {Φ : _ → sProp 𝕄}
    (hk : ∀ v2 v3, St m ρ c (Pa 3 0 1) ⊢ Φ ⟨c, v2, v3⟩) :
    St m ρ c (Pa 0 0 1) ⊢ WP c (k0_part1 xM hx aM ha oM ho wM hw sM hs mM hm rM hr zM hz cc0_scratch5 cc0_scratch6 cc0_scratch7 cc0_scratch8 cc0_scratch9) Φ := by
  rw [k0_part1_eq_skeleton]
  unfold k0_part1_skel
  refine st_devid ?_
  apply st_wstart m ρ c (Pa 0 0 1)
  apply st_wstart m ρ c (Pa 1 0 1)
  apply st_wstart m ρ c (Pa 2 0 1)
  exact st_pure (hk _ _)

/-- More of them. -/
theorem part2 (c : Dev nD) {Φ : _ → sProp 𝕄} {v3 : BitVec 32}
    (hk : St m ρ c (Pa 7 0 1) ⊢ Φ ⟨⟩) :
    St m ρ c (Pa 3 0 1) ⊢ WP c (k0_part2 xM hx aM ha oM ho wM hw sM hs mM hm rM hr zM hz cc0_scratch5 cc0_scratch6 cc0_scratch7 cc0_scratch8 cc0_scratch9 c v3) Φ := by
  rw [k0_part2_eq_skeleton]
  unfold k0_part2_skel
  apply st_wstart m ρ c (Pa 3 0 1)
  apply st_wstart m ρ c (Pa 4 0 1)
  apply st_wstart m ρ c (Pa 5 0 1)
  apply st_wstart m ρ c (Pa 6 0 1)
  exact st_pure hk

/-- The last of the first eight copies and the first signals. -/
theorem part3 (c : Dev nD) {Φ : _ → sProp 𝕄} {v2 : BitVec 32}
    (hk : ∀ v80, St m ρ c (Pa 8 0 6) ⊢ Φ ⟨SemArray.scalar (sig.barrier 0 rfl), v80⟩) :
    St m ρ c (Pa 7 0 1) ⊢ WP c (k0_part3 xM hx aM ha oM ho wM hw sM hs mM hm rM hr zM hz cc0_scratch5 cc0_scratch6 cc0_scratch7 cc0_scratch8 cc0_scratch9 c v2) Φ := by
  rw [k0_part3_eq_skeleton]
  unfold k0_part3_skel
  apply st_wstart m ρ c (Pa 7 0 1)
  apply st_sig m ρ c (Pa 8 0 1)
  apply st_sig m ρ c (Pa 8 0 2)
  apply st_sig m ρ c (Pa 8 0 3)
  apply st_sig m ρ c (Pa 8 0 4)
  apply st_sig m ρ c (Pa 8 0 5)
  exact st_pure (hk _)

/-- More signals. -/
theorem part4 (c : Dev nD) {Φ : _ → sProp 𝕄} {v2 v80 : BitVec 32}
    (hk : ∀ v, St m ρ c (Pa 8 0 12) ⊢ Φ v) :
    St m ρ c (Pa 8 0 6) ⊢ WP c (k0_part4 xM hx aM ha oM ho wM hw sM hs mM hm rM hr zM hz cc0_scratch5 cc0_scratch6 cc0_scratch7 cc0_scratch8 cc0_scratch9 c v2 (SemArray.scalar (sig.barrier 0 rfl)) v80) Φ := by
  rw [k0_part4_eq_skeleton]
  unfold k0_part4_skel
  apply st_sig m ρ c (Pa 8 0 6)
  apply st_sig m ρ c (Pa 8 0 7)
  apply st_sig m ρ c (Pa 8 0 8)
  apply st_sig m ρ c (Pa 8 0 9)
  apply st_sig m ρ c (Pa 8 0 10)
  apply st_sig m ρ c (Pa 8 0 11)
  exact st_pure (hk _)

/-- The last signals and the barrier wait. -/
theorem part5 (c : Dev nD) {Φ : _ → sProp 𝕄} {v2 v3 v104 : BitVec 32}
    (hk : ∀ v, St m ρ c (Pb 8 0 0 0) ⊢ Φ v) :
    St m ρ c (Pa 8 0 12) ⊢ WP c (k0_part5 xM hx aM ha oM ho wM hw sM hs mM hm rM hr zM hz cc0_scratch5 cc0_scratch6 cc0_scratch7 cc0_scratch8 cc0_scratch9 c v2 v3 (SemArray.scalar (sig.barrier 0 rfl)) v104) Φ := by
  rw [k0_part5_eq_skeleton]
  unfold k0_part5_skel
  apply st_sig m ρ c (Pa 8 0 12)
  apply st_sig m ρ c (Pa 8 0 13)
  apply st_sig m ρ c (Pa 8 0 14)
  apply st_sig m ρ c (Pa 8 0 15)
  apply st_bwait m ρ c (Pa 8 0 16)
  exact st_pure (hk _)

/-- The first group's weights and product. -/
theorem part6 (c : Dev nD) {Φ : _ → sProp 𝕄}
    (hk : St m ρ c (Pb 8 4 0 0) ⊢ Φ ⟨k0_pay2 (XV m ρ c) (WV m c 0), k0_pay3 (XV m ρ c) (WV m c 0)⟩) :
    St m ρ c (Pb 8 0 0 0) ⊢ WP c (k0_part6 xM hx aM ha oM ho wM hw sM hs mM hm rM hr zM hz cc0_scratch5 cc0_scratch6 cc0_scratch7 cc0_scratch8 cc0_scratch9 c) Φ := by
  rw [k0_part6_eq_skeleton]
  unfold k0_part6_skel
  apply st_wwait m ρ c (Pb 8 0 0 0)
  apply st_wwait m ρ c (Pb 8 1 0 0)
  apply st_wwait m ρ c (Pb 8 2 0 0)
  apply st_wwait m ρ c (Pb 8 3 0 0)
  apply st_xload m ρ c (Pb 8 4 0 0)
  apply st_wload m ρ c (Pb 8 4 0 0) 0
  exact st_pure hk

/-- The third group's first copies; the first group's maximum and bf16 columns. -/
theorem part7 (c : Dev nD) {Φ : _ → sProp 𝕄} {v3 : BitVec 32}
    (hk : St m ρ c (Pb 11 4 0 0) ⊢ Φ ⟨MV m ρ c 0, CB m ρ c 0⟩) :
    St m ρ c (Pb 8 4 0 0) ⊢ WP c (k0_part7 xM hx aM ha oM ho wM hw sM hs mM hm rM hr zM hz cc0_scratch5 cc0_scratch6 cc0_scratch7 cc0_scratch8 cc0_scratch9 c v3 (k0_pay2 (XV m ρ c) (WV m c 0)) (k0_pay3 (XV m ρ c) (WV m c 0))) Φ := by
  rw [k0_part7_eq_skeleton]
  unfold k0_part7_skel
  apply st_wstart m ρ c (Pb 8 4 0 0)
  apply st_wstart m ρ c (Pb 9 4 0 0)
  apply st_wstart m ρ c (Pb 10 4 0 0)
  exact st_pure hk

/-- The first group's pieces. -/
theorem part8 (c : Dev nD) {Φ : _ → sProp 𝕄} {v2 v121 : BitVec 32}
    (hk : ∀ v217 v223, St m ρ c (Pb 12 4 4 3) ⊢ Φ ⟨v217, k0_pay15 (CB m ρ c 0), v223, 0#32⟩) :
    St m ρ c (Pb 11 4 0 0) ⊢ WP c (k0_part8 xM hx aM ha oM ho wM hw sM hs mM hm rM hr zM hz cc0_scratch5 cc0_scratch6 cc0_scratch7 cc0_scratch8 cc0_scratch9 c v2 v121 (CB m ρ c 0)) Φ := by
  rw [k0_part8_eq_skeleton]
  unfold k0_part8_skel
  apply st_wstart m ρ c (Pb 11 4 0 0)
  apply st_own m ρ c (Pb 12 4 0 0)
  apply st_send m ρ c (Pb 12 4 1 0)
  apply st_own m ρ c (Pb 12 4 1 1)
  apply st_send m ρ c (Pb 12 4 2 1)
  apply st_own m ρ c (Pb 12 4 2 2)
  apply st_send m ρ c (Pb 12 4 3 2)
  apply st_own m ρ c (Pb 12 4 3 3)
  exact st_pure (hk _ _)

end Cert.Exchange
-- ==== Proof.PartsB.lean ====
/-
# The body up to the maxima
-/
module

public import proofs.«01_k».proof.Proof.PartsA

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] wp

variable {hx : xM.IsWhole} {ha : aM.IsWhole} {ho : oM.IsWhole} {hw : wM.IsWhole} {hs : sM.IsWhole} {hm : mM.IsWhole} {hr : rM.IsWhole} {hz : zM.IsWhole}

/-- The first group's last piece is sent; the second group's first quarters are awaited. -/
theorem part9 (c : Dev nD) {Φ : _ → sProp 𝕄} {v3 v217 v223 c0 : BitVec 32}
    (hk : ∀ v, St m ρ c (Pb 12 7 4 4) ⊢ Φ v) :
    St m ρ c (Pb 12 4 4 3) ⊢ WP c (k0_part9 xM hx aM ha oM ho wM hw sM hs mM hm rM hr zM hz cc0_scratch5 cc0_scratch6 cc0_scratch7 cc0_scratch8 cc0_scratch9 c v3 v217 (k0_pay15 (CB m ρ c 0)) v223 c0) Φ := by
  rw [k0_part9_eq_skeleton]
  unfold k0_part9_skel
  apply st_send m ρ c (Pb 12 4 4 3)
  apply st_wwait m ρ c (Pb 12 4 4 4)
  apply st_wwait m ρ c (Pb 12 5 4 4)
  apply st_wwait m ρ c (Pb 12 6 4 4)
  exact st_pure (hk _)

/-- The second group's product, maximum and bf16 columns. -/
theorem part10 (c : Dev nD) {Φ : _ → sProp 𝕄} {v3 : BitVec 32}
    (hk : St m ρ c (Pb 13 8 4 4) ⊢ Φ ⟨MV m ρ c 1, CB m ρ c 1⟩) :
    St m ρ c (Pb 12 7 4 4) ⊢ WP c (k0_part10 xM hx aM ha oM ho wM hw sM hs mM hm rM hr zM hz cc0_scratch5 cc0_scratch6 cc0_scratch7 cc0_scratch8 cc0_scratch9 c v3 (MV m ρ c 0)) Φ := by
  rw [k0_part10_eq_skeleton]
  unfold k0_part10_skel
  apply st_wwait m ρ c (Pb 12 7 4 4)
  apply st_xload m ρ c (Pb 12 8 4 4)
  apply st_wload m ρ c (Pb 12 8 4 4) 1
  apply st_wstart m ρ c (Pb 12 8 4 4)
  exact st_pure hk

/-- The last copies of the weights; the second group's first two pieces. -/
theorem part11 (c : Dev nD) {Φ : _ → sProp 𝕄} {v2 v227 : BitVec 32}
    (hk : ∀ v, St m ρ c (Pb 16 8 6 6) ⊢ Φ ⟨v, k0_pay27 (CB m ρ c 1)⟩) :
    St m ρ c (Pb 13 8 4 4) ⊢ WP c (k0_part11 xM hx aM ha oM ho wM hw sM hs mM hm rM hr zM hz cc0_scratch5 cc0_scratch6 cc0_scratch7 cc0_scratch8 cc0_scratch9 c v2 v227 (CB m ρ c 1)) Φ := by
  rw [k0_part11_eq_skeleton]
  unfold k0_part11_skel
  apply st_wstart m ρ c (Pb 13 8 4 4)
  apply st_wstart m ρ c (Pb 14 8 4 4)
  apply st_wstart m ρ c (Pb 15 8 4 4)
  apply st_own m ρ c (Pb 16 8 4 4)
  apply st_send m ρ c (Pb 16 8 5 4)
  apply st_own m ρ c (Pb 16 8 5 5)
  apply st_send m ρ c (Pb 16 8 6 5)
  exact st_pure (hk _)

/-- The second group's other two pieces. -/
theorem part12 (c : Dev nD) {Φ : _ → sProp 𝕄} {v2 v3 v227 v314 : BitVec 32}
    (hk : ∀ v, St m ρ c (Pb 16 9 8 8) ⊢ Φ v) :
    St m ρ c (Pb 16 8 6 6) ⊢ WP c (k0_part12 xM hx aM ha oM ho wM hw sM hs mM hm rM hr zM hz cc0_scratch5 cc0_scratch6 cc0_scratch7 cc0_scratch8 cc0_scratch9 c v2 v3 v227 (CB m ρ c 1) v314 (k0_pay27 (CB m ρ c 1))) Φ := by
  rw [k0_part12_eq_skeleton]
  unfold k0_part12_skel
  apply st_own m ρ c (Pb 16 8 6 6)
  apply st_send m ρ c (Pb 16 8 7 6)
  apply st_own m ρ c (Pb 16 8 7 7)
  apply st_send m ρ c (Pb 16 8 8 7)
  apply st_wwait m ρ c (Pb 16 8 8 8)
  exact st_pure (hk _)

/-- The third group's product, maximum and bf16 columns; its first piece, if its own. -/
theorem part13 (c : Dev nD) {Φ : _ → sProp 𝕄} {v2 v333 : BitVec 32}
    (hk : ∀ v, St m ρ c (Pb 16 12 9 8) ⊢ Φ ⟨MV m ρ c 2, CB m ρ c 2, v, k0_pay36 (XV m ρ c) (WV m c 2)⟩) :
    St m ρ c (Pb 16 9 8 8) ⊢ WP c (k0_part13 xM hx aM ha oM ho wM hw sM hs mM hm rM hr zM hz cc0_scratch5 cc0_scratch6 cc0_scratch7 cc0_scratch8 cc0_scratch9 c v2 (MV m ρ c 1) v333) Φ := by
  rw [k0_part13_eq_skeleton]
  unfold k0_part13_skel
  apply st_wwait m ρ c (Pb 16 9 8 8)
  apply st_wwait m ρ c (Pb 16 10 8 8)
  apply st_wwait m ρ c (Pb 16 11 8 8)
  apply st_xload m ρ c (Pb 16 12 8 8)
  apply st_wload m ρ c (Pb 16 12 8 8) 2
  apply st_own m ρ c (Pb 16 12 8 8)
  exact st_pure (hk _)

/-- The third group's pieces. -/
theorem part14 (c : Dev nD) {Φ : _ → sProp 𝕄} {v2 v3 v333 v375 : BitVec 32}
    (hk : ∀ v w, St m ρ c (Pb 16 12 12 12) ⊢ Φ ⟨v, w⟩) :
    St m ρ c (Pb 16 12 9 8) ⊢ WP c (k0_part14 xM hx aM ha oM ho wM hw sM hs mM hm rM hr zM hz cc0_scratch5 cc0_scratch6 cc0_scratch7 cc0_scratch8 cc0_scratch9 c v2 v3 v333 (CB m ρ c 2) v375 (k0_pay36 (XV m ρ c) (WV m c 2))) Φ := by
  rw [k0_part14_eq_skeleton]
  unfold k0_part14_skel
  apply st_send m ρ c (Pb 16 12 9 8)
  apply st_own m ρ c (Pb 16 12 9 9)
  apply st_send m ρ c (Pb 16 12 10 9)
  apply st_own m ρ c (Pb 16 12 10 10)
  apply st_send m ρ c (Pb 16 12 11 10)
  apply st_own m ρ c (Pb 16 12 11 11)
  apply st_send m ρ c (Pb 16 12 12 11)
  exact st_pure (hk _ _)

/-- The last group's weights. -/
theorem part15 (c : Dev nD) {Φ : _ → sProp 𝕄} {v414 : BitVec 32}
    (hk : St m ρ c (Pb 16 16 12 12) ⊢ Φ (k0_pay48 (XV m ρ c))) :
    St m ρ c (Pb 16 12 12 12) ⊢ WP c (k0_part15 xM hx aM ha oM ho wM hw sM hs mM hm rM hr zM hz cc0_scratch5 cc0_scratch6 cc0_scratch7 cc0_scratch8 cc0_scratch9 c v414) Φ := by
  rw [k0_part15_eq_skeleton]
  unfold k0_part15_skel
  apply st_wwait m ρ c (Pb 16 12 12 12)
  apply st_wwait m ρ c (Pb 16 13 12 12)
  apply st_wwait m ρ c (Pb 16 14 12 12)
  apply st_wwait m ρ c (Pb 16 15 12 12)
  apply st_xload m ρ c (Pb 16 16 12 12)
  exact st_pure hk

/-- The last group's product, maximum and bf16 columns; three of its pieces. -/
theorem part16 (c : Dev nD) {Φ : _ → sProp 𝕄} {v2 v412 : BitVec 32}
    (hk : St m ρ c (Pb 16 16 15 15) ⊢ Φ ⟨MV m ρ c 3, CB m ρ c 3⟩) :
    St m ρ c (Pb 16 16 12 12) ⊢ WP c (k0_part16 xM hx aM ha oM ho wM hw sM hs mM hm rM hr zM hz cc0_scratch5 cc0_scratch6 cc0_scratch7 cc0_scratch8 cc0_scratch9 c v2 (MV m ρ c 2) v412 (k0_pay48 (XV m ρ c))) Φ := by
  rw [k0_part16_eq_skeleton]
  unfold k0_part16_skel
  apply st_wload m ρ c (Pb 16 16 12 12) 3
  apply st_own m ρ c (Pb 16 16 12 12)
  apply st_send m ρ c (Pb 16 16 13 12)
  apply st_own m ρ c (Pb 16 16 13 13)
  apply st_send m ρ c (Pb 16 16 14 13)
  apply st_own m ρ c (Pb 16 16 14 14)
  apply st_send m ρ c (Pb 16 16 15 14)
  exact st_pure hk

/-- The last piece; the maximum is stored and sent once. -/
theorem part17 (c : Dev nD) {Φ : _ → sProp 𝕄} {v2 v412 : BitVec 32}
    (hk : St m ρ c (Pm 2 2) ⊢ Φ ⟨⟩) :
    St m ρ c (Pb 16 16 15 15) ⊢ WP c (k0_part17 xM hx aM ha oM ho wM hw sM hs mM hm rM hr zM hz cc0_scratch5 cc0_scratch6 cc0_scratch7 cc0_scratch8 cc0_scratch9 c v2 v412 (MV m ρ c 3) (CB m ρ c 3)) Φ := by
  rw [k0_part17_eq_skeleton]
  unfold k0_part17_skel
  apply st_own m ρ c (Pb 16 16 15 15)
  apply st_send m ρ c (Pb 16 16 16 15)
  apply st_max m ρ c (Pm 0 1)
  apply st_zown m ρ c (Pm 1 1)
  apply st_msend m ρ c (Pm 2 1)
  exact st_pure hk

end Cert.Exchange
-- ==== Proof.PartsC.lean ====
/-
# The body up to the last arrival
-/
module

public import proofs.«01_k».proof.Proof.PartsA

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] wp

variable {hx : xM.IsWhole} {ha : aM.IsWhole} {ho : oM.IsWhole} {hw : wM.IsWhole} {hs : sM.IsWhole} {hm : mM.IsWhole} {hr : rM.IsWhole} {hz : zM.IsWhole}

/-- Maxima sent. -/
theorem part18 (c : Dev nD) {Φ : _ → sProp 𝕄} {v2 : BitVec 32}
    (hk : ∀ v, St m ρ c (Pm 2 6) ⊢ Φ ⟨v, 16#32⟩) :
    St m ρ c (Pm 2 2) ⊢ WP c (k0_part18 xM hx aM ha oM ho wM hw sM hs mM hm rM hr zM hz cc0_scratch5 cc0_scratch6 cc0_scratch7 cc0_scratch8 cc0_scratch9 c v2) Φ := by
  rw [k0_part18_eq_skeleton]
  unfold k0_part18_skel
  apply st_msend m ρ c (Pm 2 2)
  apply st_msend m ρ c (Pm 2 3)
  apply st_msend m ρ c (Pm 2 4)
  apply st_msend m ρ c (Pm 2 5)
  exact st_pure (hk _)

/-- More of them. -/
theorem part19 (c : Dev nD) {Φ : _ → sProp 𝕄} {v2 v548 c16 : BitVec 32}
    (hk : St m ρ c (Pm 2 9) ⊢ Φ ⟨⟩) :
    St m ρ c (Pm 2 6) ⊢ WP c (k0_part19 xM hx aM ha oM ho wM hw sM hs mM hm rM hr zM hz cc0_scratch5 cc0_scratch6 cc0_scratch7 cc0_scratch8 cc0_scratch9 c v2 v548 c16) Φ := by
  rw [k0_part19_eq_skeleton]
  unfold k0_part19_skel
  apply st_msend m ρ c (Pm 2 6)
  apply st_msend m ρ c (Pm 2 7)
  apply st_msend m ρ c (Pm 2 8)
  exact st_pure hk

/-- More of them. -/
theorem part20 (c : Dev nD) {Φ : _ → sProp 𝕄} {v2 : BitVec 32}
    (hk : ∀ v, St m ρ c (Pm 2 13) ⊢ Φ v) :
    St m ρ c (Pm 2 9) ⊢ WP c (k0_part20 xM hx aM ha oM ho wM hw sM hs mM hm rM hr zM hz cc0_scratch5 cc0_scratch6 cc0_scratch7 cc0_scratch8 cc0_scratch9 c v2) Φ := by
  rw [k0_part20_eq_skeleton]
  unfold k0_part20_skel
  apply st_msend m ρ c (Pm 2 9)
  apply st_msend m ρ c (Pm 2 10)
  apply st_msend m ρ c (Pm 2 11)
  apply st_msend m ρ c (Pm 2 12)
  exact st_pure (hk _)

/-- The last of them. -/
theorem part21 (c : Dev nD) {Φ : _ → sProp 𝕄} {v2 v619 : BitVec 32}
    (hk : ∀ v, St m ρ c (Pm 2 16) ⊢ Φ v) :
    St m ρ c (Pm 2 13) ⊢ WP c (k0_part21 xM hx aM ha oM ho wM hw sM hs mM hm rM hr zM hz cc0_scratch5 cc0_scratch6 cc0_scratch7 cc0_scratch8 cc0_scratch9 c v2 v619) Φ := by
  rw [k0_part21_eq_skeleton]
  unfold k0_part21_skel
  apply st_msend m ρ c (Pm 2 13)
  apply st_msend m ρ c (Pm 2 14)
  apply st_msend m ρ c (Pm 2 15)
  exact st_pure (hk _)

/-- Pieces and maxima arrive. -/
theorem part22 (c : Dev nD) {Φ : _ → sProp 𝕄} {v2 v650 : BitVec 32}
    (hk : St m ρ c (Pr 3 3) ⊢ Φ (16#32)) :
    St m ρ c (Pr 1 1) ⊢ WP c (k0_part22 xM hx aM ha oM ho wM hw sM hs mM hm rM hr zM hz cc0_scratch5 cc0_scratch6 cc0_scratch7 cc0_scratch8 cc0_scratch9 c v2 v650) Φ := by
  rw [k0_part22_eq_skeleton]
  unfold k0_part22_skel
  apply st_rwait m ρ c (Pr 1 1)
  apply st_mwait m ρ c (Pr 2 1)
  apply st_rwait m ρ c (Pr 2 2)
  apply st_mwait m ρ c (Pr 3 2)
  exact st_pure hk

/-- Pieces and maxima arrive. -/
theorem part23 (c : Dev nD) {Φ : _ → sProp 𝕄} {v2 c16 : BitVec 32}
    (hk : St m ρ c (Pr 5 4) ⊢ Φ ⟨⟩) :
    St m ρ c (Pr 3 3) ⊢ WP c (k0_part23 xM hx aM ha oM ho wM hw sM hs mM hm rM hr zM hz cc0_scratch5 cc0_scratch6 cc0_scratch7 cc0_scratch8 cc0_scratch9 c v2 c16) Φ := by
  rw [k0_part23_eq_skeleton]
  unfold k0_part23_skel
  apply st_rwait m ρ c (Pr 3 3)
  apply st_mwait m ρ c (Pr 4 3)
  apply st_rwait m ρ c (Pr 4 4)
  exact st_pure hk

/-- Pieces and maxima arrive. -/
theorem part24 (c : Dev nD) {Φ : _ → sProp 𝕄} {v2 : BitVec 32}
    (hk : ∀ v, St m ρ c (Pr 6 6) ⊢ Φ v) :
    St m ρ c (Pr 5 4) ⊢ WP c (k0_part24 xM hx aM ha oM ho wM hw sM hs mM hm rM hr zM hz cc0_scratch5 cc0_scratch6 cc0_scratch7 cc0_scratch8 cc0_scratch9 c v2) Φ := by
  rw [k0_part24_eq_skeleton]
  unfold k0_part24_skel
  apply st_mwait m ρ c (Pr 5 4)
  apply st_rwait m ρ c (Pr 5 5)
  apply st_mwait m ρ c (Pr 6 5)
  exact st_pure (hk _)

/-- Pieces and maxima arrive. -/
theorem part25 (c : Dev nD) {Φ : _ → sProp 𝕄} {v2 v745 : BitVec 32}
    (hk : St m ρ c (Pr 8 8) ⊢ Φ (16#32)) :
    St m ρ c (Pr 6 6) ⊢ WP c (k0_part25 xM hx aM ha oM ho wM hw sM hs mM hm rM hr zM hz cc0_scratch5 cc0_scratch6 cc0_scratch7 cc0_scratch8 cc0_scratch9 c v2 v745) Φ := by
  rw [k0_part25_eq_skeleton]
  unfold k0_part25_skel
  apply st_rwait m ρ c (Pr 6 6)
  apply st_mwait m ρ c (Pr 7 6)
  apply st_rwait m ρ c (Pr 7 7)
  apply st_mwait m ρ c (Pr 8 7)
  exact st_pure hk

/-- Pieces and maxima arrive. -/
theorem part26 (c : Dev nD) {Φ : _ → sProp 𝕄} {v2 c16 : BitVec 32}
    (hk : St m ρ c (Pr 10 9) ⊢ Φ ⟨⟩) :
    St m ρ c (Pr 8 8) ⊢ WP c (k0_part26 xM hx aM ha oM ho wM hw sM hs mM hm rM hr zM hz cc0_scratch5 cc0_scratch6 cc0_scratch7 cc0_scratch8 cc0_scratch9 c v2 c16) Φ := by
  rw [k0_part26_eq_skeleton]
  unfold k0_part26_skel
  apply st_rwait m ρ c (Pr 8 8)
  apply st_mwait m ρ c (Pr 9 8)
  apply st_rwait m ρ c (Pr 9 9)
  exact st_pure hk

/-- Pieces and maxima arrive. -/
theorem part27 (c : Dev nD) {Φ : _ → sProp 𝕄} {v2 : BitVec 32}
    (hk : ∀ v, St m ρ c (Pr 11 11) ⊢ Φ v) :
    St m ρ c (Pr 10 9) ⊢ WP c (k0_part27 xM hx aM ha oM ho wM hw sM hs mM hm rM hr zM hz cc0_scratch5 cc0_scratch6 cc0_scratch7 cc0_scratch8 cc0_scratch9 c v2) Φ := by
  rw [k0_part27_eq_skeleton]
  unfold k0_part27_skel
  apply st_mwait m ρ c (Pr 10 9)
  apply st_rwait m ρ c (Pr 10 10)
  apply st_mwait m ρ c (Pr 11 10)
  exact st_pure (hk _)

/-- Pieces and maxima arrive. -/
theorem part28 (c : Dev nD) {Φ : _ → sProp 𝕄} {v2 v840 : BitVec 32}
    (hk : St m ρ c (Pr 13 13) ⊢ Φ (16#32)) :
    St m ρ c (Pr 11 11) ⊢ WP c (k0_part28 xM hx aM ha oM ho wM hw sM hs mM hm rM hr zM hz cc0_scratch5 cc0_scratch6 cc0_scratch7 cc0_scratch8 cc0_scratch9 c v2 v840) Φ := by
  rw [k0_part28_eq_skeleton]
  unfold k0_part28_skel
  apply st_rwait m ρ c (Pr 11 11)
  apply st_mwait m ρ c (Pr 12 11)
  apply st_rwait m ρ c (Pr 12 12)
  apply st_mwait m ρ c (Pr 13 12)
  exact st_pure hk

/-- Pieces and maxima arrive. -/
theorem part29 (c : Dev nD) {Φ : _ → sProp 𝕄} {v2 c16 : BitVec 32}
    (hk : St m ρ c (Pr 15 14) ⊢ Φ ⟨⟩) :
    St m ρ c (Pr 13 13) ⊢ WP c (k0_part29 xM hx aM ha oM ho wM hw sM hs mM hm rM hr zM hz cc0_scratch5 cc0_scratch6 cc0_scratch7 cc0_scratch8 cc0_scratch9 c v2 c16) Φ := by
  rw [k0_part29_eq_skeleton]
  unfold k0_part29_skel
  apply st_rwait m ρ c (Pr 13 13)
  apply st_mwait m ρ c (Pr 14 13)
  apply st_rwait m ρ c (Pr 14 14)
  exact st_pure hk

/-- Pieces and maxima arrive. -/
theorem part30 (c : Dev nD) {Φ : _ → sProp 𝕄} {v2 : BitVec 32}
    (hk : St m ρ c (Pr 16 16) ⊢ Φ ⟨⟩) :
    St m ρ c (Pr 15 14) ⊢ WP c (k0_part30 xM hx aM ha oM ho wM hw sM hs mM hm rM hr zM hz cc0_scratch5 cc0_scratch6 cc0_scratch7 cc0_scratch8 cc0_scratch9 c v2) Φ := by
  rw [k0_part30_eq_skeleton]
  unfold k0_part30_skel
  apply st_mwait m ρ c (Pr 15 14)
  apply st_rwait m ρ c (Pr 15 15)
  apply st_mwait m ρ c (Pr 16 15)
  exact st_pure hk

end Cert.Exchange
-- ==== Proof.PartsD.lean ====
/-
# The body up to the result
-/
module

public import proofs.«01_k».proof.Proof.PartsA

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] wp

variable {hx : xM.IsWhole} {ha : aM.IsWhole} {ho : oM.IsWhole} {hw : wM.IsWhole} {hs : sM.IsWhole} {hm : mM.IsWhole} {hr : rM.IsWhole} {hz : zM.IsWhole}

/-- Copies out of the send buffers are complete. -/
theorem part31 (c : Dev nD) {Φ : _ → sProp 𝕄} {v2 : BitVec 32}
    (hk : St m ρ c (Ps 4 4 false) ⊢ Φ (4#32)) :
    St m ρ c (Ps 1 1 false) ⊢ WP c (k0_part31 xM hx aM ha oM ho wM hw sM hs mM hm rM hr zM hz cc0_scratch5 cc0_scratch6 cc0_scratch7 cc0_scratch8 cc0_scratch9 c v2) Φ := by
  rw [k0_part31_eq_skeleton]
  unfold k0_part31_skel
  apply st_swait m ρ c (Ps 1 1 false)
  apply st_mswait m ρ c (Ps 2 1 false)
  apply st_swait m ρ c (Ps 2 2 false)
  apply st_mswait m ρ c (Ps 3 2 false)
  apply st_swait m ρ c (Ps 3 3 false)
  apply st_mswait m ρ c (Ps 4 3 false)
  exact st_pure hk

/-- Copies out of the send buffers are complete. -/
theorem part32 (c : Dev nD) {Φ : _ → sProp 𝕄} {v2 c4 : BitVec 32}
    (hk : St m ρ c (Ps 6 6 false) ⊢ Φ ⟨⟩) :
    St m ρ c (Ps 4 4 false) ⊢ WP c (k0_part32 xM hx aM ha oM ho wM hw sM hs mM hm rM hr zM hz cc0_scratch5 cc0_scratch6 cc0_scratch7 cc0_scratch8 cc0_scratch9 c v2 c4) Φ := by
  rw [k0_part32_eq_skeleton]
  unfold k0_part32_skel
  apply st_swait m ρ c (Ps 4 4 false)
  apply st_mswait m ρ c (Ps 5 4 false)
  apply st_swait m ρ c (Ps 5 5 false)
  apply st_mswait m ρ c (Ps 6 5 false)
  exact st_pure hk

/-- Copies out of the send buffers are complete. -/
theorem part33 (c : Dev nD) {Φ : _ → sProp 𝕄} {v2 : BitVec 32}
    (hk : St m ρ c (Ps 9 9 false) ⊢ Φ (9#32)) :
    St m ρ c (Ps 6 6 false) ⊢ WP c (k0_part33 xM hx aM ha oM ho wM hw sM hs mM hm rM hr zM hz cc0_scratch5 cc0_scratch6 cc0_scratch7 cc0_scratch8 cc0_scratch9 c v2) Φ := by
  rw [k0_part33_eq_skeleton]
  unfold k0_part33_skel
  apply st_swait m ρ c (Ps 6 6 false)
  apply st_mswait m ρ c (Ps 7 6 false)
  apply st_swait m ρ c (Ps 7 7 false)
  apply st_mswait m ρ c (Ps 8 7 false)
  apply st_swait m ρ c (Ps 8 8 false)
  apply st_mswait m ρ c (Ps 9 8 false)
  exact st_pure hk

/-- Copies out of the send buffers are complete. -/
theorem part34 (c : Dev nD) {Φ : _ → sProp 𝕄} {v2 c9 : BitVec 32}
    (hk : St m ρ c (Ps 11 11 false) ⊢ Φ ⟨⟩) :
    St m ρ c (Ps 9 9 false) ⊢ WP c (k0_part34 xM hx aM ha oM ho wM hw sM hs mM hm rM hr zM hz cc0_scratch5 cc0_scratch6 cc0_scratch7 cc0_scratch8 cc0_scratch9 c v2 c9) Φ := by
  rw [k0_part34_eq_skeleton]
  unfold k0_part34_skel
  apply st_swait m ρ c (Ps 9 9 false)
  apply st_mswait m ρ c (Ps 10 9 false)
  apply st_swait m ρ c (Ps 10 10 false)
  apply st_mswait m ρ c (Ps 11 10 false)
  exact st_pure hk

/-- Copies out of the send buffers are complete. -/
theorem part35 (c : Dev nD) {Φ : _ → sProp 𝕄} {v2 : BitVec 32}
    (hk : St m ρ c (Ps 14 14 false) ⊢ Φ (14#32)) :
    St m ρ c (Ps 11 11 false) ⊢ WP c (k0_part35 xM hx aM ha oM ho wM hw sM hs mM hm rM hr zM hz cc0_scratch5 cc0_scratch6 cc0_scratch7 cc0_scratch8 cc0_scratch9 c v2) Φ := by
  rw [k0_part35_eq_skeleton]
  unfold k0_part35_skel
  apply st_swait m ρ c (Ps 11 11 false)
  apply st_mswait m ρ c (Ps 12 11 false)
  apply st_swait m ρ c (Ps 12 12 false)
  apply st_mswait m ρ c (Ps 13 12 false)
  apply st_swait m ρ c (Ps 13 13 false)
  apply st_mswait m ρ c (Ps 14 13 false)
  exact st_pure hk

/-- Copies out of the send buffers are complete. -/
theorem part36 (c : Dev nD) {Φ : _ → sProp 𝕄} {v2 c14 : BitVec 32}
    (hk : St m ρ c (Ps 16 16 false) ⊢ Φ ⟨k0_pay66 (ZV m ρ c), k0_pay67 (ZV m ρ c)⟩) :
    St m ρ c (Ps 14 14 false) ⊢ WP c (k0_part36 xM hx aM ha oM ho wM hw sM hs mM hm rM hr zM hz cc0_scratch5 cc0_scratch6 cc0_scratch7 cc0_scratch8 cc0_scratch9 c v2 c14) Φ := by
  rw [k0_part36_eq_skeleton]
  unfold k0_part36_skel
  apply st_swait m ρ c (Ps 14 14 false)
  apply st_mswait m ρ c (Ps 15 14 false)
  apply st_swait m ρ c (Ps 15 15 false)
  apply st_mswait m ρ c (Ps 16 15 false)
  apply st_zload m ρ c (Ps 16 16 false)
  exact st_pure hk

end Cert.Exchange
-- ==== Proof.Body.lean ====
/-
# The whole body
-/
module

public import proofs.«01_k».proof.Proof.PartsB
public import proofs.«01_k».proof.Proof.PartsC
public import proofs.«01_k».proof.Proof.PartsD

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] wp

variable {hx : xM.IsWhole} {ha : aM.IsWhole} {ho : oM.IsWhole} {hw : wM.IsWhole} {hs : sM.IsWhole} {hm : mM.IsWhole} {hr : rM.IsWhole} {hz : zM.IsWhole}

/-- The kernel's body, on any device: from what it starts with to the stored result. -/
theorem body_run (c : Dev nD) :
    St m ρ c (Pa 0 0 1) ⊢ WP c (cc0_body xM hx aM ha oM ho wM hw sM hs mM hm rM hr zM hz cc0_scratch5 cc0_scratch6 cc0_scratch7 cc0_scratch8 cc0_scratch9) (fun _ => St m ρ c (Ps 16 16 true)) := by
  rw [cc0_body_eq_skeleton]
  unfold cc0_body_skel
  refine st_bind ?_
  apply part1 m ρ c
  intro w1_0 w1_1
  refine st_bind ?_
  apply part2 m ρ c
  refine st_bind ?_
  apply part3 m ρ c
  intro w3_0
  refine st_bind ?_
  apply part4 m ρ c
  intro w4_0
  refine st_bind ?_
  apply part5 m ρ c
  intro w5_0
  refine st_bind ?_
  apply part6 m ρ c
  refine st_bind ?_
  apply part7 m ρ c
  refine st_bind ?_
  apply part8 m ρ c
  intro w8_0 w8_1
  refine st_bind ?_
  apply part9 m ρ c
  intro w9_0
  refine st_bind ?_
  apply part10 m ρ c
  refine st_bind ?_
  apply part11 m ρ c
  intro w11_0
  refine st_bind ?_
  apply part12 m ρ c
  intro w12_0
  refine st_bind ?_
  apply part13 m ρ c
  intro w13_0
  refine st_bind ?_
  apply part14 m ρ c
  intro w14_0 w14_1
  refine st_bind ?_
  apply part15 m ρ c
  refine st_bind ?_
  apply part16 m ρ c
  refine st_bind ?_
  apply part17 m ρ c
  refine st_bind ?_
  apply part18 m ρ c
  intro w18_0
  refine st_bind ?_
  apply part19 m ρ c
  refine st_bind ?_
  apply part20 m ρ c
  intro w20_0
  refine st_bind ?_
  apply part21 m ρ c
  intro w21_0
  refine st_bind ?_
  apply part22 m ρ c
  refine st_bind ?_
  apply part23 m ρ c
  refine st_bind ?_
  apply part24 m ρ c
  intro w24_0
  refine st_bind ?_
  apply part25 m ρ c
  refine st_bind ?_
  apply part26 m ρ c
  refine st_bind ?_
  apply part27 m ρ c
  intro w27_0
  refine st_bind ?_
  apply part28 m ρ c
  refine st_bind ?_
  apply part29 m ρ c
  refine st_bind ?_
  apply part30 m ρ c
  refine st_bind ?_
  apply part31 m ρ c
  refine st_bind ?_
  apply part32 m ρ c
  refine st_bind ?_
  apply part33 m ρ c
  refine st_bind ?_
  apply part34 m ρ c
  refine st_bind ?_
  apply part35 m ρ c
  refine st_bind ?_
  apply part36 m ρ c
  apply st_rload m ρ c (Ps 16 16 false)
  apply st_out m ρ c (Ps 16 16 false)
  exact st_pure .rfl

end Cert.Exchange
-- ==== Proof.Finish.lean ====
/-
# Closing the cells and joining the buffers

After the body a device holds every one of its cells at its last round and its buffers in slots and shares. Its cells are
closed, so that every counter is zero again, and its buffers are joined.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## A device's 73 cells by kind -/

def iW (k : Fin 8) : Fin 73 := ⟨1 + k.val, by omega⟩
def iS (d : Fin 16) : Fin 73 := ⟨9 + d.val, by omega⟩
def iR (d : Fin 16) : Fin 73 := ⟨25 + d.val, by omega⟩
def iMS (d : Fin 16) : Fin 73 := ⟨41 + d.val, by omega⟩
def iMR (d : Fin 16) : Fin 73 := ⟨57 + d.val, by omega⟩

def eW : Fin 8 ↪ Fin 73 := ⟨iW, fun a b h => Fin.ext (by have := congrArg Fin.val h; simp only [iW] at this; omega)⟩
def eS : Fin 16 ↪ Fin 73 := ⟨iS, fun a b h => Fin.ext (by have := congrArg Fin.val h; simp only [iS] at this; omega)⟩
def eR : Fin 16 ↪ Fin 73 := ⟨iR, fun a b h => Fin.ext (by have := congrArg Fin.val h; simp only [iR] at this; omega)⟩
def eMS : Fin 16 ↪ Fin 73 := ⟨iMS, fun a b h => Fin.ext (by have := congrArg Fin.val h; simp only [iMS] at this; omega)⟩
def eMR : Fin 16 ↪ Fin 73 := ⟨iMR, fun a b h => Fin.ext (by have := congrArg Fin.val h; simp only [iMR] at this; omega)⟩

theorem kinds : (Finset.univ : Finset (Fin 73))
    = {0} ∪ (Finset.univ.map eW ∪ (Finset.univ.map eS ∪ (Finset.univ.map eR ∪ (Finset.univ.map eMS ∪ Finset.univ.map eMR)))) := by decide +kernel

omit [FloatOps F] in
/-- An assertion per cell of a device, kind by kind. -/
theorem split73 (Ψ : Fin 73 → sProp 𝕄) : bigSep Finset.univ Ψ
    = iprop(Ψ 0 ∗ (bigSep Finset.univ fun k : Fin 8 => Ψ (iW k)) ∗ (bigSep Finset.univ fun d : Dev nD => Ψ (iS d)) ∗ (bigSep Finset.univ fun d : Dev nD => Ψ (iR d))
        ∗ (bigSep Finset.univ fun d : Dev nD => Ψ (iMS d)) ∗ bigSep Finset.univ fun d : Dev nD => Ψ (iMR d)) := by
  rw [kinds, bigSep_union (by decide +kernel), bigSep_union (by decide +kernel), bigSep_union (by decide +kernel), bigSep_union (by decide +kernel), bigSep_union (by decide +kernel),
    bigSep_map, bigSep_map, bigSep_map, bigSep_map, bigSep_map, bigSep_singleton]
  rfl

theorem kcell_0 (c : Dev nD) : kcell (c, 0) = bCell c := rfl
theorem kcell_W (c : Dev nD) (k : Fin 8) : kcell (c, iW k) = dCell c (qW k) := by
  unfold kcell csem; rw [dif_neg (by show ¬ 1 + k.val = 0; omega)]
  exact congrArg (fun q => dCell c q) (Fin.ext (by show 1 + k.val + 1 = 2 + k.val; omega))
theorem kcell_S (c d : Dev nD) : kcell (c, iS d) = dCell c (qS d) := by
  unfold kcell csem; rw [dif_neg (by show ¬ 9 + d.val = 0; omega)]
  exact congrArg (fun q => dCell c q) (Fin.ext (by show 9 + d.val + 1 = 10 + d.val; omega))
theorem kcell_R (c d : Dev nD) : kcell (c, iR d) = dCell c (qR d) := by
  unfold kcell csem; rw [dif_neg (by show ¬ 25 + d.val = 0; omega)]
  exact congrArg (fun q => dCell c q) (Fin.ext (by show 25 + d.val + 1 = 26 + d.val; omega))
theorem kcell_MS (c d : Dev nD) : kcell (c, iMS d) = dCell c (qMS d) := by
  unfold kcell csem; rw [dif_neg (by show ¬ 41 + d.val = 0; omega)]
  exact congrArg (fun q => dCell c q) (Fin.ext (by show 41 + d.val + 1 = 42 + d.val; omega))
theorem kcell_MR (c d : Dev nD) : kcell (c, iMR d) = dCell c (qMR d) := by
  unfold kcell csem; rw [dif_neg (by show ¬ 57 + d.val = 0; omega)]
  exact congrArg (fun q => dCell c q) (Fin.ext (by show 57 + d.val + 1 = 58 + d.val; omega))

omit [FloatOps F] in
/-- The same, each cell named. -/
theorem cells_split (Φ : GSem nD τ sig → sProp 𝕄) (c : Dev nD) : (bigSep Finset.univ fun i : Fin 73 => Φ (kcell (c, i)))
    = iprop(Φ (bCell c) ∗ (bigSep Finset.univ fun k : Fin 8 => Φ (dCell c (qW k))) ∗ (bigSep Finset.univ fun d : Dev nD => Φ (dCell c (qS d)))
        ∗ (bigSep Finset.univ fun d : Dev nD => Φ (dCell c (qR d))) ∗ (bigSep Finset.univ fun d : Dev nD => Φ (dCell c (qMS d)))
        ∗ bigSep Finset.univ fun d : Dev nD => Φ (dCell c (qMR d))) := by
  rw [split73]
  simp only [kcell_0, kcell_W, kcell_S, kcell_R, kcell_MS, kcell_MR]

/-! ## Closing -/

/-- One device's cell with no duty left is closed. -/
theorem close_one (c : Dev nD) (q : SemLoc sig) (R : ℕ) (hrec : Recs m ρ ⊢ iprop(∃ κ, cellInv ER (rd m ρ) κ ((c : Thread nD τ), q) ∗ reached ER ((c : Thread nD τ), q) 0))
    (hd : ∀ r, R ≤ r → (rd (F := F) m ρ).duties ((c : Thread nD τ), q) r = ∅) :
    iprop(Recs m ρ ∗ atPos ER ((c : Thread nD τ), q) R ∅ 0) ⊢ |={Set.univ}=> (semVal ((c : Thread nD τ), q) 0 : sProp 𝕄) := by
  iintro ⟨#Hrec, Hat⟩
  ihave H := hrec $$ Hrec
  icases H with ⟨%κ, #Hinv, -⟩
  imod (Rounds.cell_close ER (rd (F := F) m ρ) (Set.mem_univ κ) (fun h => h) (R := R) hd) $$ [Hat] with Hz
  · isplitr; · iexact Hinv
    iexact Hat
  imodintro
  iexact Hz

omit [FloatOps F] in
/-- A persistent assertion serves every member of a family. -/
theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A family of DMA cells with no duty left is closed. -/
theorem close_fam {I : Type} [DecidableEq I] (S : Finset I) (c : Dev nD) (q : I → DmaSem sig) (R : ℕ) (hq : ∀ i, 2 ≤ (q i).val)
    (hd : ∀ i ∈ S, ∀ r, R ≤ r → (rd (F := F) m ρ).duties (dCell c (q i)) r = ∅) :
    iprop(Recs m ρ ∗ bigSep S fun i => atPos ER (dCell c (q i)) R ∅ 0) ⊢ |={Set.univ}=> (bigSep S fun i => semVal (dCell c (q i)) 0 : sProp 𝕄) :=
  (with_pers fun i hi => close_one m ρ c (.dma (q i)) R (rec_dma m ρ c (q i) (hq i)) (hd i hi)).trans (bigSep_fupd _ _)

/-- The 16 cells of one kind: the peers' at round 1, the device's own never used. -/
theorem close_kind (c : Dev nD) (q : Dev nD → DmaSem sig) (hq : ∀ d, ¬ (q d).val < 10) (ho : ∀ d, dOf ((q d).val + 6) = d) :
    iprop(Recs m ρ ∗ atPos ER (dCell c (q c)) 0 ∅ 0 ∗ bigSep (Finset.univ.erase c) fun d : Dev nD => atPos ER (dCell c (q d)) 1 ∅ 0)
      ⊢ |={Set.univ}=> (bigSep Finset.univ fun d : Dev nD => semVal (dCell c (q d)) 0 : sProp 𝕄) := by
  iintro ⟨#Hrec, H0, H1⟩
  imod (close_one m ρ c (.dma (q c)) 0 (rec_dma m ρ c (q c) (by have := hq c; omega)) (fun r _ => duties_own m ρ c r (q c) (hq c) (ho c))) $$ [H0] with Hz0
  · isplitr; · iexact Hrec
    iexact H0
  imod (close_fam m ρ (Finset.univ.erase c) c q 1 (fun d => by have := hq d; omega) (fun d _ r hr => duties_peer_later m ρ c r (q d) (hq d) hr)) $$ [H1] with Hz1
  · isplitr; · iexact Hrec
    iexact H1
  imodintro
  iapply (Entails.of_eq (bs_erase (Finset.mem_univ c) (Φ := fun d : Dev nD => (semVal (dCell c (q d)) 0 : sProp 𝕄))).symm)
  isplitl [Hz0]; · iexact Hz0
  iexact Hz1

/-! ## Joining -/

/-- The received piece's slots and a device's own, of whatever contents, are the whole buffer at some. -/
theorem sPt_join (c : Dev nD) (g : Buf (Elt F) (lS c)) :
    iprop((∃ f, sPt c c f) ∗ bigSep (Finset.univ.erase c) fun d : Dev nD => sPt c d g) ⊢ iprop(∃ f : Buf (Elt F) (lS c), lS c ↦{fullShare} f) := by
  iintro ⟨⟨%f, H⟩, HR⟩
  iexists (fun x => if (x 0).val = c.val then f x else g x)
  iapply (Entails.of_eq (sPt_all c _))
  iapply (Entails.of_eq (bs_erase (Finset.mem_univ c) (Φ := fun d : Dev nD => sPt c d (fun x : S16x256x128.Idx => if (x 0).val = c.val then f x else g x))).symm)
  isplitl [H]
  · iapply (Entails.of_eq (show sPt c c f = sPt c c _ from by
      unfold sPt; exact pointsTo_congr fun x hx => (if_pos ((mem_rSlot c x).mp hx)).symm)) $$ H
  · iapply (Entails.of_eq (bigSep_congr fun d hd => show sPt c d g = sPt c d _ from by
      unfold sPt
      exact pointsTo_congr fun x hx => (if_neg (fun h => Finset.ne_of_mem_erase hd (Fin.ext (((mem_rSlot d x).mp hx).symm.trans h)))).symm)) $$ HR

theorem mem_rW (k : Fin 8) (x : S2x4096x512.Idx) : x ∈ (rW k).set ↔ (x 0).val = k.val / 4 ∧ (x 1).val / 1024 = k.val % 4 := by
  have h2 := (x 2).isLt; change (x 2).val < 512 at h2
  refine Rect.mem_set_unit.trans ⟨fun h => ?_, fun h a => ?_⟩
  · have a := h 0; have b := h 1
    change k.val / 4 ≤ (x 0).val ∧ (x 0).val < k.val / 4 + 1 at a
    change (k.val % 4) * 1024 ≤ (x 1).val ∧ (x 1).val < (k.val % 4) * 1024 + 1024 at b
    omega
  · fin_cases a
    · show k.val / 4 ≤ (x 0).val ∧ (x 0).val < k.val / 4 + 1; omega
    · show (k.val % 4) * 1024 ≤ (x 1).val ∧ (x 1).val < (k.val % 4) * 1024 + 1024; omega
    · show 0 ≤ (x 2).val ∧ (x 2).val < 0 + 512; omega

/-- The quarters of both halves of the weight buffer are the whole of it. -/
theorem wPt_all (c : Dev nD) (f : Buf (Elt F) (lW c)) : (bigSep Finset.univ fun k : Fin 8 => wPt c k f) = (lW c ↦{fullShare} f : sProp 𝕄) := by
  have h := pointsTo_biUnion (ℓ := lW c) (q := fullShare) (f := f) (Ix := Unit) (Name := ℕ) (U := UU) (Lvl := ℕ) Finset.univ (fun k : Fin 8 => (rW k).set)
    (fun k _ k' _ hne => by
      rw [Finset.disjoint_left]
      intro x hx hx'
      have h1 := (mem_rW k x).mp hx; have h2 := (mem_rW k' x).mp hx'
      exact hne (Fin.ext (by omega)))
  rw [show (Finset.univ.biUnion fun k : Fin 8 => (rW k).set) = Finset.univ from
    Finset.eq_univ_of_forall fun x => by
      have h0 := (x 0).isLt; change (x 0).val < 2 at h0
      have h1 := (x 1).isLt; change (x 1).val < 4096 at h1
      exact Finset.mem_biUnion.mpr ⟨⟨(x 0).val * 4 + (x 1).val / 1024, by omega⟩, Finset.mem_univ _, (mem_rW _ x).mpr
        ⟨by show _ = ((x 0).val * 4 + (x 1).val / 1024) / 4; omega, by show _ = ((x 0).val * 4 + (x 1).val / 1024) % 4; omega⟩⟩] at h
  exact h.symm
/-- The two halves hold their last copies. -/
theorem wPt_join (c : Dev nD) : (bigSep Finset.univ fun k : Fin 8 => wPt c k (WB m c (k.val / 4 + 2))) ⊢ iprop(∃ f : Buf (Elt F) (lW c), lW c ↦{fullShare} f) := by
  iintro H
  iexists (fun x => WB m c ((x 0).val + 2) x)
  iapply (Entails.of_eq (wPt_all c _))
  iapply (Entails.of_eq (bigSep_congr fun k _ => show wPt c k (WB m c (k.val / 4 + 2)) = wPt c k _ from by
      unfold wPt; exact pointsTo_congr fun x hx => by rw [← ((mem_rW k x).mp hx).1])) $$ H

/-- The weights in eight shares and the rest. -/
theorem weights_split (c : Dev nD) : (lA c ↦{fullShare} m (lA c) : sProp 𝕄) = iprop((lA c ↦{shR 8} m (lA c)) ∗ bigSep Finset.univ fun k : Fin 8 => aFull m c k) := by
  rw [show (lA c ↦{fullShare} m (lA c) : sProp 𝕄) = _ from share_split Finset.univ (m (lA c)) 8, range_fin]
  rfl

/-- The maximum's buffer back from its receivers. -/
theorem max_join (c : Dev nD) : MB m ρ c 2 16 16 = (lM c ↦{fullShare} MX m ρ c : sProp 𝕄) := by
  rw [MB_start]
  simp only [MB]
  rw [fam2_end c c (ofs c) (ofs c) 16 16 _ _ _ (fun d _ => ofs_lt c d) (fun d _ => ofs_lt c d), fam2_start c c (ofs c) (ofs c) 1 1 _ _ _ fun d hd => ofs_pos c d hd]

/-! ## The end of the body -/

/-- What a device keeps aside during its body: the parts no other device takes part in. -/
def Aside (c : Dev nD) : sProp 𝕄 :=
  iprop((∃ f, sPt c c f) ∗ (lA c ↦{shR 8} m (lA c)) ∗ atPos ER (dCell c (qS c)) 0 ∅ 0 ∗ atPos ER (dCell c (qR c)) 0 ∅ 0
    ∗ atPos ER (dCell c (qMS c)) 0 ∅ 0 ∗ atPos ER (dCell c (qMR c)) 0 ∅ 0)

/-- A device after its body: its five buffers whole, the weights as they were, every counter of its own zero. -/
def Done (c : Dev nD) : sProp 𝕄 :=
  iprop((∃ f : Buf (Elt F) (lW c), lW c ↦{fullShare} f) ∗ (∃ f : Buf (Elt F) (lS c), lS c ↦{fullShare} f) ∗ (∃ f : Buf (Elt F) (lM c), lM c ↦{fullShare} f)
    ∗ (∃ f : Buf (Elt F) (lR c), lR c ↦{fullShare} f) ∗ (∃ f : Buf (Elt F) (lZ c), lZ c ↦{fullShare} f)
    ∗ (lA c ↦{fullShare} m (lA c)) ∗ bigSep Finset.univ fun i : Fin 73 => semVal (kcell (c, i)) 0)

theorem W_end (c : Dev nD) : WF m c 16 16
    = iprop((bigSep Finset.univ fun k : Fin 8 => aFull m c k) ∗ (bigSep Finset.univ fun k : Fin 8 => wPt c k (WB m c (k.val / 4 + 2)))
        ∗ bigSep Finset.univ fun k : Fin 8 => atPos ER (dCell c (qW k)) 2 ∅ 0) := by
  rw [← bigSep_sep', ← bigSep_sep']
  unfold WF
  refine bigSep_congr fun k _ => ?_
  rw [show wPh k.val 16 16 = 4 from by unfold wPh; rw [if_pos (by omega), if_pos (by omega)]]
  rfl
theorem S_end (c : Dev nD) : SF m ρ c 16 16
    = iprop((bigSep (Finset.univ.erase c) fun d : Dev nD => sPt c d (SV m ρ c)) ∗ bigSep (Finset.univ.erase c) fun d : Dev nD => atPos ER (dCell c (qS d)) 1 ∅ 0) := by
  rw [← bigSep_sep']
  unfold SF
  exact fam2_end c c _ _ 16 16 _ _ _ (fun d _ => rk_lt c d) (fun d _ => ofs_lt c d)
theorem MK_end (c : Dev nD) : MK (F := F) c 16 16 = bigSep (Finset.univ.erase c) fun d : Dev nD => atPos ER (dCell c (qMS d)) 1 ∅ 0 := by
  unfold MK
  exact fam2_end c c _ _ 16 16 _ _ _ (fun d _ => ofs_lt c d) (fun d _ => ofs_lt c d)

/-- From the end of the body: nothing owed, the staged block and the result as stated, the device done. -/
theorem finish (c : Dev nD) : iprop(St m ρ c (Ps 16 16 true) ∗ Aside m c)
    ⊢ |={Set.univ}=> iprop(Done m c ∗ (∃ W, owes (c : Thread nD τ) 0 W) ∗ (lX c ↦{fullShare} (XV m ρ c : Buf (Elt F) (lX c)))
        ∗ (lO c ↦{fullShare} (OV m ρ c : Buf (Elt F) (lO c)))) := by
  unfold St Aside
  simp only [W_end, S_end, MK_end, max_join]
  iintro ⟨⟨#Hrec, HOW, HXP, ⟨HaF, HwP, HatW⟩, HSG, HBS, HOS, ⟨HsP, HatS⟩, HZO, HMB, HatMS, HRF, HMR, HOP⟩, Hs0, HA, H0S, H0R, H0MS, H0MR⟩
  ihave HR := (Entails.of_eq (RM_all m ρ c)) $$ [HOS HRF]
  · isplitl [HOS] <;> iassumption
  ihave HZ := (Entails.of_eq (ZM_all m ρ c)) $$ [HZO HMR]
  · isplitl [HZO] <;> iassumption
  icases HR with ⟨HR, HatR⟩
  icases HZ with ⟨HZ, HatMR⟩
  unfold BS
  icases HBS with ⟨HatB, -⟩
  imod (close_one m ρ c (.reg barS) 1 (rec_bar m ρ c) (fun r hr => duties_bar_later m ρ c r hr)) $$ [HatB] with HzB
  · isplitr; · iexact Hrec
    iexact HatB
  imod (close_fam m ρ Finset.univ c qW 2 (fun k => by show 2 ≤ 2 + k.val; omega) (fun k _ r hr => duties_W_later m ρ c k r hr)) $$ [HatW] with HzW
  · isplitr; · iexact Hrec
    iexact HatW
  imod (close_kind m ρ c qS (fun d => (qS_rng d).1) dOf_S) $$ [H0S HatS] with HzS
  · isplitr; · iexact Hrec
    isplitl [H0S] <;> iassumption
  imod (close_kind m ρ c qR (fun d => (qR_rng d).1) dOf_R) $$ [H0R HatR] with HzR
  · isplitr; · iexact Hrec
    isplitl [H0R] <;> iassumption
  imod (close_kind m ρ c qMS (fun d => (qMS_rng d).1) dOf_MS) $$ [H0MS HatMS] with HzMS
  · isplitr; · iexact Hrec
    isplitl [H0MS] <;> iassumption
  imod (close_kind m ρ c qMR (fun d => (qMR_rng d).1) dOf_MR) $$ [H0MR HatMR] with HzMR
  · isplitr; · iexact Hrec
    isplitl [H0MR] <;> iassumption
  ihave HW := (wPt_join m c) $$ HwP
  ihave HS := (sPt_join c (SV m ρ c)) $$ [Hs0 HsP]
  · isplitl [Hs0] <;> iassumption
  ihave HAA := (Entails.of_eq (weights_split m c).symm) $$ [HA HaF]
  · isplitl [HA] <;> iassumption
  imodintro
  unfold Done OW XP OP
  rw [owe_none, cells_split (fun g => (semVal g 0 : sProp 𝕄)) c]
  isplitr [HOW HXP HOP]
  · isplitl [HW]; · iexact HW
    isplitl [HS]; · iexact HS
    isplitl [HMB]; · iexists _; iexact HMB
    isplitl [HR]; · iexists _; iexact HR
    isplitl [HZ]; · iexists _; iexact HZ
    isplitl [HAA]; · iexact HAA
    isplitl [HzB]; · iexact HzB
    isplitl [HzW]; · iexact HzW
    isplitl [HzS]; · iexact HzS
    isplitl [HzR]; · iexact HzR
    isplitl [HzMS]; · iexact HzMS
    iexact HzMR
  isplitl [HOW]; · iexact HOW
  isplitl [HXP]; · iexact HXP
  iexact HOP

end Cert.Exchange
-- ==== Proof.Begin.lean ====
/-
# What a device starts its body with

The tokens and credits each device is given at launch, and how they and its buffers make the first stage of its body.
-/
module

public import proofs.«01_k».proof.Proof.Finish

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

/-! ## Duty tokens, listed by who pays with them -/

/-- The tokens device `x.1` pays with: of its peers' barriers; of its own weight cells, both rounds; per peer, of its own send
    cell and of the peer's receive cell, for the pieces and for the maxima. -/
def tokOf (x : Dev nD × Fin 6 × Fin 16) : GSem nD τ sig × ℕ × Fin 16 := match x.2.1 with
  | 0 => (bCell x.2.2, 0, x.1)
  | 1 => (dCell x.1 (qW ⟨x.2.2.val % 8, Nat.mod_lt _ (by decide)⟩), x.2.2.val / 8, 0)
  | 2 => (dCell x.1 (qS x.2.2), 0, 0)
  | 3 => (dCell x.2.2 (qR x.1), 0, 0)
  | 4 => (dCell x.1 (qMS x.2.2), 0, 0)
  | 5 => (dCell x.2.2 (qMR x.1), 0, 0)
/-- The device, kind and index back from a token. -/
def unTok (t : GSem nD τ sig × ℕ × Fin 16) : Dev nD × Fin 6 × Fin 16 := match t.1.2 with
  | .reg _ => (t.2.2, 0, t.1.1.1)
  | .dma q => if q.val < 10 then (t.1.1.1, 1, dOf (q.val - 2 + 8 * t.2.1))
    else if q.val < 26 then (t.1.1.1, 2, dOf (q.val + 6))
    else if q.val < 42 then (dOf (q.val + 6), 3, t.1.1.1)
    else if q.val < 58 then (t.1.1.1, 4, dOf (q.val + 6))
    else (dOf (q.val + 6), 5, t.1.1.1)
theorem unTok_tokOf : Function.LeftInverse unTok tokOf := fun ⟨c, j, d⟩ => by
  match j with
  | 0 => rfl
  | 1 =>
    have h := d.isLt
    have e : dOf ((qW ⟨d.val % 8, Nat.mod_lt _ (by decide)⟩).val - 2 + 8 * (d.val / 8)) = d := Fin.ext (by
      show (2 + d.val % 8 - 2 + 8 * (d.val / 8)) % 16 = d.val; omega)
    exact (if_pos (qW_lt _)).trans (congrArg (fun y => (c, (1 : Fin 6), y)) e)
  | 2 => exact (if_neg (qS_rng d).1).trans ((if_pos (qS_rng d).2).trans (congrArg (fun y => (c, (2 : Fin 6), y)) (dOf_S d)))
  | 3 => exact (if_neg (qR_rng c).1).trans ((if_neg (qR_rng c).2.1).trans ((if_pos (qR_rng c).2.2).trans (congrArg (fun y => (y, (3 : Fin 6), d)) (dOf_R c))))
  | 4 => exact (if_neg (qMS_rng d).1).trans ((if_neg (qMS_rng d).2.1).trans ((if_neg (qMS_rng d).2.2.1).trans ((if_pos (qMS_rng d).2.2.2).trans
      (congrArg (fun y => (c, (4 : Fin 6), y)) (dOf_MS d)))))
  | 5 => exact (if_neg (qMR_rng c).1).trans ((if_neg (qMR_rng c).2.1).trans ((if_neg (qMR_rng c).2.2.1).trans ((if_neg (qMR_rng c).2.2.2).trans
      (congrArg (fun y => (y, (5 : Fin 6), d)) (dOf_MR c)))))

/-- One token. -/
def tk (x : Dev nD × Fin 6 × Fin 16) : sProp 𝕄 := dutyTok ER (tokOf x).1 (tokOf x).2.1 (tokOf x).2.2
/-- A device's tokens. -/
def Toks (c : Dev nD) : sProp 𝕄 := bigSep Finset.univ fun x : Fin 6 × Fin 16 => tk (F := F) (c, x)

def e8 (r : Fin 2) : Fin 8 ↪ Fin 16 := ⟨fun k => ⟨k.val + 8 * r.val, by omega⟩, fun a b h => Fin.ext (by have := congrArg Fin.val h; simp only at this; omega)⟩
theorem halves : (Finset.univ : Finset (Fin 16)) = Finset.univ.map (e8 0) ∪ Finset.univ.map (e8 1) := by decide

omit [FloatOps F] in
theorem tk_W (c : Dev nD) (r : Fin 2) (k : Fin 8) : tk (F := F) (c, 1, e8 r k) = dutyTok ER (dCell c (qW k)) r.val 0 := by
  have h1 : (⟨(k.val + 8 * r.val) % 8, Nat.mod_lt _ (by decide)⟩ : Fin 8) = k := Fin.ext (by show (k.val + 8 * r.val) % 8 = k.val; omega)
  have h2 : (k.val + 8 * r.val) / 8 = r.val := by omega
  show dutyTok ER (dCell c (qW ⟨(k.val + 8 * r.val) % 8, _⟩)) ((k.val + 8 * r.val) / 8) 0 = _
  rw [h1, h2]

omit [FloatOps F] in
theorem Toks_eq (c : Dev nD) : Toks (F := F) c
    = iprop((bigSep Finset.univ fun d : Dev nD => dutyTok ER (bCell d) 0 c)
      ∗ ((bigSep Finset.univ fun k : Fin 8 => dutyTok ER (dCell c (qW k)) 0 0) ∗ (bigSep Finset.univ fun k : Fin 8 => dutyTok ER (dCell c (qW k)) 1 0))
      ∗ (bigSep Finset.univ fun d : Dev nD => dutyTok ER (dCell c (qS d)) 0 0) ∗ (bigSep Finset.univ fun d : Dev nD => dutyTok ER (dCell d (qR c)) 0 0)
      ∗ (bigSep Finset.univ fun d : Dev nD => dutyTok ER (dCell c (qMS d)) 0 0) ∗ (bigSep Finset.univ fun d : Dev nD => dutyTok ER (dCell d (qMR c)) 0 0)) := by
  have h1 : (bigSep Finset.univ fun d : Fin 16 => tk (F := F) (c, 1, d))
      = iprop((bigSep Finset.univ fun k : Fin 8 => dutyTok ER (dCell c (qW k)) 0 0) ∗ (bigSep Finset.univ fun k : Fin 8 => dutyTok ER (dCell c (qW k)) 1 0)) := by
    rw [halves, bigSep_union (by decide), bigSep_map, bigSep_map, bigSep_congr (fun k _ => tk_W c 0 k), bigSep_congr (fun k _ => tk_W c 1 k)]
    rfl
  unfold Toks
  rw [bigSep_univ_prod, bigSep_univ_eq_bigSepL [0, 1, 2, 3, 4, 5] (by decide) (by decide)]
  rw [← h1]
  rfl

/-! ## Launch credits -/

/-- What a family of debts owes one of its cells. -/
theorem sum_on (S : Finset (Dev nD)) (f : Dev nD → GSem nD τ sig) (hf : Function.Injective f) (n : ℕ) (x : Dev nD) :
    (∑ d ∈ S, (tallyAt (f d) () n : CellTallies nD τ sig Unit)) (f x) () = if x ∈ S then n else 0 := by
  rw [Finset.sum_apply, Finsupp.finsetSum_apply, Finset.sum_congr rfl fun d _ => tallyAt_apply (f d) () n (f x) (), ← Finset.sum_ite_eq S x fun _ => n]
  exact Finset.sum_congr rfl fun d _ => by
    by_cases h : x = d
    · subst h; rw [if_pos ⟨rfl, rfl⟩, if_pos rfl]
    · rw [if_neg fun h' => h (hf h'.1), if_neg h]
/-- It owes nothing elsewhere. -/
theorem sum_off (S : Finset (Dev nD)) (f : Dev nD → GSem nD τ sig) (n : ℕ) (g : GSem nD τ sig) (hg : ∀ d, g ≠ f d) :
    (∑ d ∈ S, (tallyAt (f d) () n : CellTallies nD τ sig Unit)) g () = 0 := by
  rw [Finset.sum_apply, Finsupp.finsetSum_apply]
  exact Finset.sum_eq_zero fun d _ => by rw [tallyAt_ne_cell (hg d)]; rfl

theorem cell_dev {a b : Dev nD} {q q' : SemLoc sig} (h : ((a : Thread nD τ), q) = ((b : Thread nD τ), q')) : a = b := congrArg (fun g : GSem nD τ sig => g.1.1) h
theorem bar_ne (a b : Dev nD) (q : DmaSem sig) : bCell a ≠ dCell b q := fun h => nomatch congrArg (fun g : GSem nD τ sig => g.2) h
theorem cell_sem {a b : Dev nD} {q q' : DmaSem sig} (h : dCell a q = dCell b q') : q.val = q'.val := by
  have := congrArg (fun g : GSem nD τ sig => g.2) h
  exact congrArg Fin.val (SemLoc.dma.inj this)

/-- What device `d` owes at launch. -/
abbrev O₀ (d : Dev nD) : CellTallies nD τ sig Unit := owe d 1 0 1

theorem owed_bar (d c : Dev nD) : O₀ d (bCell c) () = if d = c then 0 else 1 := by
  unfold O₀ owe
  rw [Pi.add_apply, Finsupp.add_apply, Pi.add_apply, Finsupp.add_apply, sum_off _ (fun x => dCell x (qR d)) NP _ (fun x => bar_ne c x _),
    sum_off _ (fun x => dCell x (qMR d)) NZ _ (fun x => bar_ne c x _), sum_on _ bCell (fun a b h => cell_dev h) 1 c]
  by_cases h : d = c
  · rw [if_pos h, if_neg (fun h' => (Finset.mem_filter.mp h').2.1 h.symm)]
  · rw [if_neg h, if_pos (Finset.mem_filter.mpr ⟨Finset.mem_univ _, fun e => h e.symm, ofs_pos d c fun e => h e.symm⟩)]
theorem owed_R (d c e : Dev nD) (he : e ≠ c) : O₀ d (dCell c (qR e)) () = if d = e then NP else 0 := by
  unfold O₀ owe
  rw [Pi.add_apply, Finsupp.add_apply, Pi.add_apply, Finsupp.add_apply, sum_off _ bCell 1 _ (fun x h => bar_ne x c _ h.symm),
    sum_off _ (fun x => dCell x (qMR d)) NZ _ (fun x h => by have h1 := cell_sem h; have h2 := (qR_rng e).2.2; have h3 := (qMR_rng d).2.2.2; omega)]
  by_cases h : d = e
  · subst h
    rw [if_pos rfl, sum_on _ (fun x => dCell x (qR d)) (fun a b h => cell_dev h) NP c, if_pos (Finset.mem_filter.mpr ⟨Finset.mem_univ _, fun e => he e.symm, Nat.zero_le _⟩)]
    omega
  · rw [if_neg h, sum_off _ (fun x => dCell x (qR d)) NP _ (fun x h' => h (Fin.ext (by have h1 := cell_sem h'; change 26 + e.val = 26 + d.val at h1; omega)))]
theorem owed_MR (d c e : Dev nD) (he : e ≠ c) : O₀ d (dCell c (qMR e)) () = if d = e then NZ else 0 := by
  unfold O₀ owe
  rw [Pi.add_apply, Finsupp.add_apply, Pi.add_apply, Finsupp.add_apply, sum_off _ bCell 1 _ (fun x h => bar_ne x c _ h.symm),
    sum_off _ (fun x => dCell x (qR d)) NP _ (fun x h => by have h1 := cell_sem h; have h2 := (qR_rng d).2.2; have h3 := (qMR_rng e).2.2.2; omega)]
  by_cases h : d = e
  · subst h
    rw [if_pos rfl, sum_on _ (fun x => dCell x (qMR d)) (fun a b h => cell_dev h) NZ c,
      if_pos (Finset.mem_filter.mpr ⟨Finset.mem_univ _, fun e => he e.symm, ofs_pos d c fun e => he e.symm⟩)]
    omega
  · rw [if_neg h, sum_off _ (fun x => dCell x (qMR d)) NZ _ (fun x h' => h (Fin.ext (by have h1 := cell_sem h'; change 58 + e.val = 58 + d.val at h1; omega)))]

/-- A cell's launch credit from the sum of what is owed it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar (c : Dev nD) : ∑ d : Dev nD, O₀ d (bCell c) () = 15 := by
  rw [Finset.sum_congr rfl fun d _ => owed_bar d c]
  revert c; decide
theorem launch_R (c e : Dev nD) (he : e ≠ c) : ∑ d : Dev nD, O₀ d (dCell c (qR e)) () = NP := by
  rw [Finset.sum_congr rfl fun d _ => owed_R d c e he, Finset.sum_ite_eq' Finset.univ e fun _ => NP, if_pos (Finset.mem_univ _)]
theorem launch_MR (c e : Dev nD) (he : e ≠ c) : ∑ d : Dev nD, O₀ d (dCell c (qMR e)) () = NZ := by
  rw [Finset.sum_congr rfl fun d _ => owed_MR d c e he, Finset.sum_ite_eq' Finset.univ e fun _ => NZ, if_pos (Finset.mem_univ _)]

theorem csem_injective : Function.Injective csem := fun i j h => by
  unfold csem at h
  by_cases hi : i.val = 0 <;> by_cases hj : j.val = 0
  · exact Fin.ext (by omega)
  · rw [dif_pos hi, dif_neg hj] at h; exact nomatch h
  · rw [dif_neg hi, dif_pos hj] at h; exact nomatch h
  · rw [dif_neg hi, dif_neg hj] at h
    exact Fin.ext (by have := congrArg Fin.val (SemLoc.dma.inj h); simp only at this; omega)
theorem kcell_injective : Function.Injective (kcell : Dev nD × Fin 73 → GSem nD τ sig) := fun a b h =>
  Prod.ext (cell_dev h) (csem_injective (congrArg (fun g : GSem nD τ sig => g.2) h))

/-- A device's credits: a unit per peer at its barrier, and per peer what will arrive at its receive cells. -/
def Creds (c : Dev nD) : sProp 𝕄 :=
  iprop(cred (tallyAt (bCell c) () 15) ∗ (bigSep (Finset.univ.erase c) fun d : Dev nD => cred (tallyAt (dCell c (qR d)) () NP))
    ∗ bigSep (Finset.univ.erase c) fun d : Dev nD => cred (tallyAt (dCell c (qMR d)) () NZ))

omit [FloatOps F] in
/-- A device's own member dropped. -/
theorem own_drop (c : Dev nD) (Φ : Dev nD → sProp 𝕄) : bigSep Finset.univ Φ ⊢ bigSep (Finset.univ.erase c) Φ := bigSep_subset (Finset.erase_subset c _)
omit [FloatOps F] in
theorem ex_in {B : Type} (Φ : B → sProp 𝕄) (b : B) : Φ b ⊢ iprop(∃ b, Φ b) := by
  iintro H
  iexists b
  iexact H
omit [FloatOps F] in
theorem creds_intro (c : Dev nD) : (Pipeline.launchCred O₀ c : sProp 𝕄) ⊢ Creds c := by
  have h := cells_split (F := F) (fun g => cred (tallyOn g (launchCredit (Pipeline.owing O₀) 0 g))) c
  have h0 : (Pipeline.launchCred O₀ c : sProp 𝕄) ⊢ bigSep Finset.univ fun i : Fin 73 => cred (tallyOn (kcell (c, i)) (launchCredit (Pipeline.owing O₀) 0 (kcell (c, i)))) := by
    unfold Pipeline.launchCred
    refine (bigSep_subset (Finset.subset_univ (Finset.univ.map ⟨csem, csem_injective⟩))).trans ?_
    rw [bigSep_map]; exact Entails.refl _
  refine h0.trans ?_
  rw [h, launch_at _ _ (launch_bar c)]
  unfold Creds
  iintro ⟨HB, -, -, HR, -, HMR⟩
  isplitl [HB]; · iexact HB
  isplitl [HR]
  · ihave H := (own_drop c _) $$ HR
    iapply (Entails.of_eq (bigSep_congr (s := Finset.univ.erase c) fun d hd => congrArg cred (launch_at _ _ (launch_R c d (Finset.ne_of_mem_erase hd))))) $$ H
  · ihave H := (own_drop c _) $$ HMR
    iapply (Entails.of_eq (bigSep_congr (s := Finset.univ.erase c) fun d hd => congrArg cred (launch_at _ _ (launch_MR c d (Finset.ne_of_mem_erase hd))))) $$ H

/-! ## The first stage -/

theorem W_begin (c : Dev nD) : WF m c 0 0
    = iprop((bigSep Finset.univ fun k : Fin 8 => aFull m c k) ∗ (bigSep Finset.univ fun k : Fin 8 => iprop(∃ f, wPt c k f))
        ∗ (bigSep Finset.univ fun k : Fin 8 => dutyTok ER (dCell c (qW k)) 0 0) ∗ (bigSep Finset.univ fun k : Fin 8 => dutyTok ER (dCell c (qW k)) 1 0)
        ∗ bigSep Finset.univ fun k : Fin 8 => atPos ER (dCell c (qW k)) 0 ∅ 0) := by
  rw [← bigSep_sep', ← bigSep_sep', ← bigSep_sep', ← bigSep_sep']
  unfold WF
  refine bigSep_congr fun k _ => ?_
  rw [show wPh k.val 0 0 = 0 from by unfold wPh; rw [if_neg (by omega), if_neg (by omega)]]
  rfl
theorem SG_begin (c : Dev nD) : SG (F := F) c 1
    = iprop(((bigSep (Finset.univ.erase c) fun d : Dev nD => iprop(∃ f, rPt c d f)) ∗ bigSep (Finset.univ.erase c) fun d : Dev nD => iprop(∃ f, zPt c d f))
        ∗ bigSep (Finset.univ.erase c) fun d : Dev nD => dutyTok ER (bCell d) 0 c) := by
  rw [← bigSep_sep', ← bigSep_sep']
  unfold SG
  exact fam2_start c c _ _ 1 0 _ _ _ fun d hd => ofs_pos c d hd
theorem S_begin (c : Dev nD) : SF m ρ c 0 1
    = iprop((bigSep (Finset.univ.erase c) fun d : Dev nD => iprop(∃ f, sPt c d f)) ∗ (bigSep (Finset.univ.erase c) fun d : Dev nD => dutyTok ER (dCell c (qS d)) 0 0)
        ∗ (bigSep (Finset.univ.erase c) fun d : Dev nD => dutyTok ER (dCell d (qR c)) 0 0) ∗ bigSep (Finset.univ.erase c) fun d : Dev nD => atPos ER (dCell c (qS d)) 0 ∅ 0) := by
  rw [← bigSep_sep', ← bigSep_sep', ← bigSep_sep']
  unfold SF
  exact fam2_start c c _ _ 0 1 _ _ _ fun d hd => Nat.zero_le _
theorem MK_begin (c : Dev nD) : MK (F := F) c 1 1
    = iprop((bigSep (Finset.univ.erase c) fun d : Dev nD => dutyTok ER (dCell c (qMS d)) 0 0) ∗ (bigSep (Finset.univ.erase c) fun d : Dev nD => dutyTok ER (dCell d (qMR c)) 0 0)
        ∗ bigSep (Finset.univ.erase c) fun d : Dev nD => atPos ER (dCell c (qMS d)) 0 ∅ 0) := by
  rw [← bigSep_sep', ← bigSep_sep']
  unfold MK
  exact fam2_start c c _ _ 1 1 _ _ _ fun d hd => ofs_pos c d hd
theorem R_begin (c : Dev nD) : RF m ρ c 1
    = iprop((bigSep (Finset.univ.erase c) fun d : Dev nD => cred (tallyAt (dCell c (qR d)) () NP)) ∗ bigSep (Finset.univ.erase c) fun d : Dev nD => atPos ER (dCell c (qR d)) 0 ∅ 0) := by
  rw [← bigSep_sep']
  unfold RF
  exact fam2_start c c _ _ 1 0 _ _ _ fun d hd => ofs_pos d c fun e => hd e.symm
theorem MR_begin (c : Dev nD) : MR m ρ c 1
    = iprop((bigSep (Finset.univ.erase c) fun d : Dev nD => cred (tallyAt (dCell c (qMR d)) () NZ)) ∗ bigSep (Finset.univ.erase c) fun d : Dev nD => atPos ER (dCell c (qMR d)) 0 ∅ 0) := by
  rw [← bigSep_sep']
  unfold MR
  exact fam2_start c c _ _ 1 0 _ _ _ fun d hd => ofs_pos d c fun e => hd e.symm

omit [FloatOps F] in
/-- A buffer's slots, the contents forgotten, the device's own set apart. -/
theorem slots_out {B : Type} (c : Dev nD) (P : Dev nD → B → sProp 𝕄) (f : B) :
    (bigSep Finset.univ fun d : Dev nD => P d f) ⊢ iprop((∃ f, P c f) ∗ bigSep (Finset.univ.erase c) fun d : Dev nD => iprop(∃ f, P d f)) := by
  rw [bs_erase (Finset.mem_univ c)]
  exact BI.sep_mono (ex_in (fun f => P c f) f) (bigSep_mono fun d _ => ex_in (fun f => P d f) f)
omit [FloatOps F] in
/-- A device's own member set apart. -/
theorem own_out (c : Dev nD) (Φ : Dev nD → sProp 𝕄) : bigSep Finset.univ Φ ⊢ iprop(Φ c ∗ bigSep (Finset.univ.erase c) Φ) := Entails.of_eq (bs_erase (Finset.mem_univ c))

/-- What a device is given at launch: the cells' records, its positions, its tokens, its credits, the weights. -/
def Start (c : Dev nD) : sProp 𝕄 :=
  iprop(Recs m ρ ∗ (bigSep Finset.univ fun i : Fin 73 => atPos ER (kcell (c, i)) 0 ∅ 0) ∗ Toks c ∗ Creds c ∗ (lA c ↦{fullShare} m (lA c)))
/-- Its five buffers, of any contents. -/
def Bufs (c : Dev nD) : sProp 𝕄 :=
  iprop((∃ f : Buf (Elt F) (lW c), lW c ↦{fullShare} f) ∗ (∃ f : Buf (Elt F) (lS c), lS c ↦{fullShare} f) ∗ (∃ f : Buf (Elt F) (lM c), lM c ↦{fullShare} f)
    ∗ (∃ f : Buf (Elt F) (lR c), lR c ↦{fullShare} f) ∗ (∃ f : Buf (Elt F) (lZ c), lZ c ↦{fullShare} f))

/-- From the launch's gifts, its buffers, the staged block and what it owes, a device is at the body's first stage. -/
theorem begin_body (c : Dev nD) : iprop(Start m ρ c ∗ Bufs c ∗ (∃ W, owes (c : Thread nD τ) (O₀ c) W) ∗ (lX c ↦{fullShare} (XV m ρ c : Buf (Elt F) (lX c)))
      ∗ (∃ f : Buf (Elt F) (lO c), lO c ↦{fullShare} f))
    ⊢ iprop(St m ρ c (Pa 0 0 1) ∗ Aside m c) := by
  unfold Start Bufs Creds
  rw [cells_split (fun g => (atPos ER g 0 ∅ 0 : sProp 𝕄)) c, Toks_eq, weights_split]
  iintro ⟨⟨#Hrec, ⟨HaB, HaW, HaS, HaR, HaMS, HaMR⟩, ⟨HtB, ⟨HtW0, HtW1⟩, HtS, HtR, HtMS, HtMR⟩, ⟨HcB, HcR, HcMR⟩, HA, HaF⟩, ⟨⟨%fW, HW⟩, ⟨%fS, HS⟩, HM, ⟨%fR, HR⟩, ⟨%fZ, HZ⟩⟩, HOW, HXP, HOP⟩
  ihave HaS := (own_out c _) $$ HaS
  icases HaS with ⟨HS0, HaS⟩
  ihave HaR := (own_out c _) $$ HaR
  icases HaR with ⟨HR0, HaR⟩
  ihave HaMS := (own_out c _) $$ HaMS
  icases HaMS with ⟨HMS0, HaMS⟩
  ihave HaMR := (own_out c _) $$ HaMR
  icases HaMR with ⟨HMR0, HaMR⟩
  ihave HtB := (own_drop c _) $$ HtB
  ihave HtS := (own_drop c _) $$ HtS
  ihave HtR := (own_drop c _) $$ HtR
  ihave HtMS := (own_drop c _) $$ HtMS
  ihave HtMR := (own_drop c _) $$ HtMR
  ihave HS := (Entails.of_eq (sPt_all c fS).symm) $$ HS
  ihave HS := (slots_out c (fun d f => sPt c d f) fS) $$ HS
  icases HS with ⟨HSo, HS⟩
  ihave HR := (Entails.of_eq (rPt_all c fR).symm) $$ HR
  ihave HR := (slots_out c (fun d f => rPt c d f) fR) $$ HR
  icases HR with ⟨HRo, HR⟩
  ihave HZ := (Entails.of_eq (zPt_all c fZ).symm) $$ HZ
  ihave HZ := (slots_out c (fun d f => zPt c d f) fZ) $$ HZ
  icases HZ with ⟨HZo, HZ⟩
  ihave HW := (Entails.of_eq (wPt_all c fW).symm) $$ HW
  ihave HW := (show (bigSep Finset.univ fun k : Fin 8 => wPt c k fW) ⊢ bigSep Finset.univ fun k : Fin 8 => iprop(∃ f, wPt c k f) from
    bigSep_mono fun k _ => ex_in (fun f => wPt c k f) fW) $$ HW
  isplitr [HSo HA HS0 HR0 HMS0 HMR0]
  · unfold St
    simp only [W_begin, SG_begin, S_begin, MK_begin, R_begin, MR_begin]
    unfold OW XP BS OS ZO MB OP
    rw [if_neg (Nat.not_lt_zero _)]
    isplitr; · iexact Hrec
    isplitl [HOW]; · iexact HOW
    isplitl [HXP]; · iexact HXP
    isplitl [HaF HW HtW0 HtW1 HaW]
    · isplitl [HaF]; · iexact HaF
      isplitl [HW]; · iexact HW
      isplitl [HtW0]; · iexact HtW0
      isplitl [HtW1]; · iexact HtW1
      iexact HaW
    isplitl [HR HZ HtB]
    · isplitl [HR HZ]
      · isplitl [HR]; · iexact HR
        iexact HZ
      iexact HtB
    isplitl [HcB HaB]
    · isplitl [HcB]; · iexact HcB
      iexact HaB
    isplitl [HRo]; · iexact HRo
    isplitl [HS HtS HtR HaS]
    · isplitl [HS]; · iexact HS
      isplitl [HtS]; · iexact HtS
      isplitl [HtR]; · iexact HtR
      iexact HaS
    isplitl [HZo]; · iexact HZo
    isplitl [HM]; · iexact HM
    isplitl [HtMS HtMR HaMS]
    · isplitl [HtMS]; · iexact HtMS
      isplitl [HtMR]; · iexact HtMR
      iexact HaMS
    isplitl [HcR HaR]
    · isplitl [HcR]; · iexact HcR
      iexact HaR
    isplitl [HcMR HaMR]
    · isplitl [HcMR]; · iexact HcMR
      iexact HaMR
    iexact HOP
  · unfold Aside
    isplitl [HSo]; · iexact HSo
    isplitl [HA]; · iexact HA
    isplitl [HS0]; · iexact HS0
    isplitl [HR0]; · iexact HR0
    isplitl [HMS0]; · iexact HMS0
    iexact HMR0

end Cert.Exchange
-- ==== Proof.Launch.lean ====
/-
# The launch

From any memory with zero counters the kernel runs on every device, terminates, leaves its arguments as they were, its
counters at zero and its result as the body's value says.
-/
module

public import proofs.«01_k».proof.Proof.Begin
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cc0_body

/-! ## The pipeline's data -/

/-- The one pipeline: the block of `x` staged in, the result staged out; before the point what a device starts with, after it
    what it ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XV m ρ c
    | ⟨1, _⟩ => OV m ρ c
  Φ t := match t with
    | ⟨0, _⟩ => iprop(Start m ρ c ∗ Bufs c)
    | ⟨_ + 1, _⟩ => Done m c
  q _ := fullShare
  owed t := match t with
    | ⟨0, _⟩ => O₀ c
    | ⟨_ + 1, _⟩ => 0

abbrev pt₀ : Fin cfg0.N := t0_0
theorem fetch_x (t : Fin cfg0.N) : (cfg0.win (0 : Fin 2)).fetch t = true := by rw [show t = pt₀ from fin_N0 t]; rfl

omit [FloatOps F] in
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A staging buffer held at stated contents. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's obligation to the pipeline. -/
theorem body_obligation (c : Dev nD) : BodyObligation (dats (F := F) m ρ 0 c) (defs₀ (F := F)) 𝒱₀ () Set.univ := fun t => by
  rw [show t = pt₀ from fin_N0 t]
  rw [show (∀ Φ : Fin cfg0.W → sProp 𝕄, bigSep Finset.univ Φ = iprop(Φ (0 : Fin 2) ∗ Φ (1 : Fin 2))) from fun Φ => bigSep_W0 Φ,
    show (∀ Φ : Fin cfg0.W → sProp 𝕄, bigSep Finset.univ Φ = iprop(Φ (0 : Fin 2) ∗ Φ (1 : Fin 2))) from fun Φ => bigSep_W0 Φ]
  simp only [owns_all]
  show iprop((Start m ρ c ∗ Bufs c) ∗ (dats m ρ 0 c).owesAt () pt₀.castSucc
      ∗ (∃ d, held c cc0_stg0_0 ((dats m ρ 0 c).before (0 : Fin 2) pt₀ d)) ∗ (∃ d, held c cc0_stg1_0 ((dats m ρ 0 c).before (1 : Fin 2) pt₀ d)))
    ⊢ WP c (bodyAt0 pt₀)
      (fun _ => iprop(Done m c ∗ (dats m ρ 0 c).owesAt () pt₀.succ ∗ held c cc0_stg0_0 (XV m ρ c) ∗ held c cc0_stg1_0 (OV m ρ c)))
  unfold Dat.owesAt Pipeline.owesWithin
  rw [show (dats m ρ 0 c).owed pt₀.castSucc = O₀ c from rfl, show (dats m ρ 0 c).owed pt₀.succ = 0 from rfl]
  iintro ⟨⟨Hst, Hbuf⟩, ⟨%W, %hW, HO⟩, ⟨%d0, %g0, %hg0, Hx⟩, ⟨%d1, %g1, %hg1, Hout⟩⟩
  have hx : g0 = XV m ρ c := by rw [hg0]; unfold Dat.before; rw [if_pos (fetch_x pt₀)]; rfl
  rw [hx]
  ihave H := (begin_body m ρ c) $$ [Hst Hbuf HO Hx Hout]
  · isplitl [Hst]; · iexact Hst
    isplitl [Hbuf]; · iexact Hbuf
    isplitl [HO]; · iexists W; iexact HO
    isplitl [Hx]; · iexact Hx
    iexists g1; iexact Hout
  icases H with ⟨HS, Has⟩
  ihave Hw := (body_run m ρ c) $$ HS
  iapply (wp_fupd frame (wpE (defs₀ (F := F)) 𝒱₀ (c : Thread nD τ) none) Set.univ)
  iapply (wp_wand frame (wpE (defs₀ (F := F)) 𝒱₀ (c : Thread nD τ) none) Set.univ) $$ Hw
  iintro %a HS
  imod (finish m ρ c) $$ [HS Has] with ⟨HD, ⟨%W', HO⟩, HX, HOut⟩
  · isplitl [HS] <;> iassumption
  imodintro
  isplitl [HD]; · iexact HD
  isplitl [HO]
  · iexists W'
    isplitr; · ipureintro; exact fun _ _ => Or.inl trivial
    iexact HO
  isplitl [HX]
  · iexists _; isplitr; · (ipureintro; rfl)
    iexact HX
  iexists _; isplitr; · (ipureintro; rfl)
  iexact HOut

/-! ## Ghost state at launch -/

/-- The kernel's own DMA semaphores. -/
def osem (i : Fin 72) : SemLoc sig := csem i.succ
theorem ownSemFacts : Pipeline.OwnSemFacts cfg0.spec osem :=
  ⟨by decide +kernel, fun a b h => Fin.succ_injective _ (csem_injective h), by decide +kernel⟩

theorem share_eq (c : Dev nD) (w : Fin cfg0.W) : (dats m ρ 0 c).share w = fullShare := by unfold Dat.share; split <;> rfl

def allCells : Finset (GSem nD τ sig) := Finset.univ.map ⟨kcell, kcell_injective⟩
def allToks : Finset (GSem nD τ sig × ℕ × Fin 16) := Finset.univ.map ⟨tokOf, unTok_tokOf.injective⟩
def u₀ : UU := (initOf (Pipeline.cells cfgs cellOf_inj) (Pipeline.launchToks cfgs cellOf_inj), initOf allCells allToks)

/-- What the launch's element gives device `c`. -/
def G (c : Dev nD) : sProp 𝕄 :=
  iprop((bigSep Finset.univ fun i : Fin 73 => roundState ER (rd m ρ) (kcell (c, i)) 0)
    ∗ (bigSep Finset.univ fun i : Fin 73 => atPos ER (kcell (c, i)) 0 ∅ 0) ∗ (bigSep Finset.univ fun i : Fin 73 => reached ER (kcell (c, i)) 0) ∗ Toks c)
/-- The records of every cell. -/
def AllRecs : sProp 𝕄 := bigSep Finset.univ fun ck : Dev nD × Fin 73 => iprop(∃ κ, cellInv ER (rd m ρ) κ (kcell ck) ∗ reached ER (kcell ck) 0)
instance AllRecs_pers : BI.Persistent (AllRecs (F := F) m ρ) := by unfold AllRecs; infer_instance
/-- What the launch makes of it. -/
def G' (c : Dev nD) : sProp 𝕄 := iprop(AllRecs m ρ ∗ (bigSep Finset.univ fun i : Fin 73 => atPos ER (kcell (c, i)) 0 ∅ 0) ∗ Toks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Fin 73 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => Toks c := by
    unfold allToks; rw [bigSep_map, bigSep_univ_prod]; rfl
  iintro H
  imod (Rounds.fund ER (rd m ρ) allCells allToks) $$ H with ⟨Hst, Hr, Hat, Htok⟩
  imodintro
  unfold G
  rw [bigSep_sep', bigSep_sep', bigSep_sep']
  isplitl [Hst]; · iapply (Entails.of_eq (hX fun g => roundState ER (rd m ρ) g 0)) $$ Hst
  isplitl [Hat]; · iapply (Entails.of_eq (hX fun g => atPos ER g 0 ∅ 0)) $$ Hat
  isplitl [Hr]; · iapply (Entails.of_eq (hX fun g => reached ER g 0)) $$ Hr
  iapply (Entails.of_eq hT) $$ Htok

omit [FloatOps F] in
/-- The barrier's counter and the kernel's own are a device's 73. -/
theorem sems_eq (c : Dev nD) : (bigSep Finset.univ fun i : Fin 73 => semVal (kcell (c, i)) 0 : sProp 𝕄)
    = iprop(unscopedSems0 c ∗ Pipeline.ownSems0 (Ix := Unit) (Name := ℕ) (U := UU) (Lvl := ℕ) (Val := Elt F) (τ := τ) osem c) := by
  rw [show (Finset.univ : Finset (Fin 73)) = {0} ∪ Finset.univ.map (Fin.succEmb 72) from by decide +kernel, bigSep_union (by decide +kernel), bigSep_map, bigSep_singleton]
  unfold unscopedSems0
  rw [bigSep_eq_bigSepL_of_eq [SemLoc.reg barS] (by decide) (by decide)]
  rfl

theorem inv_reached (c : Dev nD) :
    iprop((bigSep Finset.univ fun i : Fin 73 => iprop(∃ κ : ℕ, cellInv ER (rd m ρ) κ (kcell (c, i)))) ∗ bigSep Finset.univ fun i : Fin 73 => reached ER (kcell (c, i)) 0)
      ⊢ (bigSep Finset.univ fun i : Fin 73 => iprop(∃ κ : ℕ, cellInv ER (rd m ρ) κ (kcell (c, i)) ∗ reached ER (kcell (c, i)) 0) : sProp 𝕄) := by
  have h (i : Fin 73) : iprop((∃ κ : ℕ, cellInv ER (rd m ρ) κ (kcell (c, i))) ∗ reached ER (kcell (c, i)) 0)
      ⊢ (iprop(∃ κ : ℕ, cellInv ER (rd m ρ) κ (kcell (c, i)) ∗ reached ER (kcell (c, i)) 0) : sProp 𝕄) := by
    iintro ⟨⟨%κ, H⟩, H'⟩
    iexists κ
    isplitl [H] <;> iassumption
  rw [← bigSep_sep']
  exact bigSep_mono fun i _ => h i

/-- A device's cells' invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 73 => iprop(∃ κ : ℕ, cellInv ER (rd m ρ) κ (kcell (c, i)) ∗ reached ER (kcell (c, i)) 0))
          ∗ (bigSep Finset.univ fun i : Fin 73 => atPos ER (kcell (c, i)) 0 ∅ 0) ∗ Toks c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun i : Fin 73 => semVal (kcell (c, i)) 0) ∗ bigSep Finset.univ fun i : Fin 73 => roundState ER (rd m ρ) (kcell (c, i)) 0)
      ⊢ (|={Set.univ}=> bigSep Finset.univ fun i : Fin 73 => iprop(∃ κ : ℕ, cellInv ER (rd m ρ) κ (kcell (c, i))) : sProp 𝕄) from by
        rw [← bigSep_sep']
        exact (bigSep_mono fun i _ => (Rounds.body_intro ER (rd m ρ) (kcell (c, i))).trans inv_alloc).trans (bigSep_fupd _ _)) $$ [Hv Hst] with Hinv
  · isplitl [Hv] <;> iassumption
  imodintro
  isplitr [Hat Htok]
  · iapply (inv_reached (F := F) m ρ c)
    isplitl [Hinv]; · iexact Hinv
    iexact Hr
  isplitl [Hat]; · iexact Hat
  iexact Htok

/-- The records of every cell serve every device. -/
theorem regroup : (bigSep Finset.univ fun c : Dev nD => iprop((bigSep Finset.univ fun i : Fin 73 => iprop(∃ κ : ℕ, cellInv ER (rd m ρ) κ (kcell (c, i)) ∗ reached ER (kcell (c, i)) 0))
          ∗ (bigSep Finset.univ fun i : Fin 73 => atPos ER (kcell (c, i)) 0 ∅ 0) ∗ Toks c) : sProp 𝕄)
    ⊢ bigSep Finset.univ (G' m ρ) := by
  rw [bigSep_sep', ← bigSep_univ_prod (fun ck : Dev nD × Fin 73 => iprop(∃ κ : ℕ, cellInv ER (rd m ρ) κ (kcell ck) ∗ reached ER (kcell ck) 0))]
  iintro ⟨HI, HR⟩
  iapply (with_pers (R := AllRecs m ρ) fun c _ => Entails.refl (G' m ρ c))
  isplitl [HI]; · unfold AllRecs; iexact HI
  iexact HR

/-- Every device's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Start m ρ c ∗ emp) := by
  rw [Pipeline.unscopedRestP_none, show (Pipeline.unscopedRest cfg0.spec c (fun b => m ((c : Thread nD τ).loc b)) : sProp 𝕄) = _ from unscopedRest0_eq c _]
  unfold G'
  iintro ⟨HA, #Hlev, Hcr, -, #Hrec, Hat, Htok⟩
  ihave Hc := (creds_intro (F := F) c) $$ Hcr
  imodintro
  unfold Start Recs
  isplitl
  · isplitr
    · isplitr; · unfold AllRecs; iexact Hrec
      iexact Hlev
    isplitl [Hat]; · iexact Hat
    isplitl [Htok]; · iexact Htok
    isplitl [Hc]; · iexact Hc
    iexact HA
  · iempintro

theorem phi_in (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(Start m ρ c ∗ Bufs c) from rfl, show (Pipeline.scopedRest cfg0.spec c : sProp 𝕄) = Bufs c from scopedRest0_eq c]
  iintro ⟨Hs, -, Hr⟩
  isplitl [Hs]; · iexact Hs
  iexact Hr

/-- What a device hands back of what no window covers: the barrier's counter at zero, the weights as they were. -/
def Ret (c : Dev nD) : sProp 𝕄 := iprop(unscopedSems0 c ∗ (lA c ↦{fullShare} m (lA c)))

theorem phi_out (c : Dev nD) :
    (dats m ρ 0 c).Φ (Fin.last cfg0.N) ⊢ iprop(Ret m c ∗ Pipeline.ownSems0 osem c ∗ Pipeline.scopedRest cfg0.spec c) := by
  rw [show (dats m ρ 0 c).Φ (Fin.last cfg0.N) = Done m c from rfl, show (Pipeline.scopedRest cfg0.spec c : sProp 𝕄) = Bufs c from scopedRest0_eq c]
  unfold Done Ret Bufs
  rw [sems_eq]
  iintro ⟨HW, HS, HM, HR, HZ, HA, Hu, Ho⟩
  isplitl [Hu HA]
  · isplitl [Hu]; · iexact Hu
    iexact HA
  isplitl [Ho]; · iexact Ho
  isplitl [HW]; · iexact HW
  isplitl [HS]; · iexact HS
  isplitl [HM]; · iexact HM
  isplitl [HR]; · iexact HR
  iexact HZ

theorem lv_stage (c : Dev nD) (w : Fin cfg0.W) (i : Fin (cfg0.win w).nbuf) : lv (dCell c ((cfg0.win w).sem i)) () = 0 := by
  revert i; revert w
  exact (by decide +kernel : ∀ (w : Fin cfg0.W) (i : Fin (cfg0.win w).nbuf), (if (26 ≤ ((cfg0.win w).sem i).val ∧ ((cfg0.win w).sem i).val < 42) ∨ 58 ≤ ((cfg0.win w).sem i).val then 2 else 0) = 0)

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage c w s) 1 0 1
    · have h := mayWait_low (F := F) c _ (lv_stage c w s) 16 16 16
      rw [owe_none] at h
      exact h

/-- What is read of the final memory beside the windows' arrays. -/
def QY (c : Dev nD) (s : MemSt nD τ sig (Elt F)) : Prop :=
  s.mem (lA c) = m (lA c) ∧ ∀ sm : SemLoc sig, sm.isScoped .tc = false → s.sem ((c.tc : Thread nD τ), sm) = 0

theorem ret_read (c : Dev nD) (s' : Phys nD τ sig (Elt F)) : iprop(Ret m c ∗ emp ∗ SI s') ⊢ |={Set.univ}=> iprop(⌜QY m c s'.mem⌝ ∗ SI s') := by
  unfold Ret
  iintro ⟨⟨Hu, HA⟩, -, HSI⟩
  icombine HSI HA gives %h
  imod (Pipeline.unscopedSems0_read (X := unscopedSems0 c) (c := c) fupd_intro s') $$ [Hu HSI] with ⟨%hs, HSI⟩
  · isplitl [Hu] <;> iassumption
  imodintro
  isplitr; · ipureintro; exact ⟨Buf.eq_of_forall_mem_univ h, hs⟩
  iexact HSI

/-! ## The run -/

def finalA (c : Dev nD) (w : Fin cfg0.W) : Buf (Elt F) ((cfg0.win w).arr.view.loc (c : Thread nD τ)) := (dats m ρ 0 c).arrAt w cfg0.N
def QC (r : PUnit × MemSt nD τ sig (Elt F)) : Prop :=
  ∀ c : Dev nD, (∀ w : Fin cfg0.W, r.2.mem ((cfg0.win w).arr.view.loc (c : Thread nD τ)) = finalA m ρ c w) ∧ r.2.mem (lA c) = m (lA c)

set_option maxHeartbeats 1000000 in
/-- Over any float values, from any memory with zero counters, every run of the sixteen devices terminates, with the windows'
    arrays as computed, the weights as they were and every counter zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := Start m ρ) (Y := Ret m) (Z := fun _ => iprop(emp))
    (hX := start_intro m ρ) (hin := phi_in m ρ) (hout := phi_out m ρ)
    (QY := QY m) (hY := ret_read m)
    (hQ := fun _ h hs => ⟨fun c => ⟨(h c).1, (h c).2.2.1⟩, sem_eq_zero hs fun c => (h c).2.2.2⟩)

/-- The block of `x` is not changed. -/
theorem final_x (c : Dev nD) : finalA m ρ c (0 : Fin 2) = m ((c : Thread nD τ).loc main_arg0) := (dats (F := F) m ρ 0 c).arrAt_in (0 : Fin 2) rfl _

/-- The result window's one block is the whole array. -/
theorem out_flushed (c : Dev nD) (t : Fin cfg0.N) :
    (dats m ρ 0 c).flushed (1 : Fin 2) t = ((cfg0.win (1 : Fin 2)).blk t).view.read (Elt F) (OV m ρ c) := by
  obtain rfl := fin_N0 t
  have ha : (dats m ρ 0 c).after (1 : Fin 2) t0_0 = OV m ρ c := rfl
  unfold Pipeline.Dat.flushed
  rw [ha]
  funext y
  show OV m ρ c _ = OV m ρ c _
  refine congrArg (OV m ρ c) (funext fun a => Fin.ext ?_)
  fin_cases a
  · show (y (0 : Fin 2)).val = 0 * 4096 + 1 * (y (0 : Fin 2)).val; omega
  · show (y (1 : Fin 2)).val = 0 * 128 + 1 * (y (1 : Fin 2)).val; omega

theorem out_cover (i : S4096x128.Idx) : ∃ t : Fin cfg0.N, (cfg0.win (1 : Fin 2)).flush t = true ∧ i ∈ ((cfg0.win (1 : Fin 2)).blk t).view.set := by
  refine ⟨t0_0, flush0_1 _, ?_⟩
  show i ∈ ((View.whole main_v1).slice (win0_1.rect t0_0)).set
  rw [View.set_slice_whole, Rect.mem_set_unit]
  have h0 : (i 0 : Nat) < 4096 := (i 0).isLt
  have h1 : (i 1 : Nat) < 128 := (i 1).isLt
  intro a
  fin_cases a
  · show 0 * 4096 ≤ (i 0 : Nat) ∧ (i 0 : Nat) < 0 * 4096 + 4096; omega
  · show 0 * 128 ≤ (i 1 : Nat) ∧ (i 1 : Nat) < 0 * 128 + 128; omega

/-- The result array is the body's value. -/
theorem final_out (c : Dev nD) : finalA m ρ c (1 : Fin 2) = OV m ρ c :=
  (dats m ρ 0 c).arrAt_eq_of_cover (1 : Fin 2) (OV m ρ c) (fun t _ => out_flushed m ρ c t) out_cover

/-- Over any float values, from any memory with zero counters, every run of the sixteen devices terminates, each device's
    result at the body's value, its arguments as they were and every counter zero. -/
theorem run_main : θ_run defs (onTc (τ := τ) (main (F := F))) (s₀ m ρ) (fun r =>
    (∀ c : Dev nD, r.2.mem (((c : Dev nD) : Thread nD τ).loc main_v1) = OV m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (final_out m ρ c), ((h.1 c).1 (0 : Fin 2)).trans (final_x m ρ c), (h.1 c).2⟩, h.2⟩)
    (run_arrays m ρ)

end Cert.Exchange
-- ==== Proof.Frames.lean ====
/-
# The frames

Each program runs and terminates, its arguments end as they were and every counter ends at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Frame

@[expose] public section

set_option maxRecDepth 16384

noncomputable section

namespace Cert.Exchange

open Idealize.ShloMosaic Idealize.ShloMosaic.TcCoe Idealize.SL.Sem

/-- The idealized kernel leaves its arguments, and its counters at zero. -/
theorem frame_ideal : Cert.quiescent_KernelIdeal := fun m ρ _ =>
  (θ_run Cert.KernelIdeal.defs _ _).mono (fun _ h => ⟨fun c => (h.1 c).2, h.2⟩) (run_main (F := Ideal) m ρ)

/-- The two programs' body tables are the same. -/
theorem table_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))
theorem defs_eq : Cert.Kernel.defs (F := Bits) = Cert.KernelIdeal.defs (F := Bits) := congrArg (Pipeline.defs (Cert.KernelIdeal.pcfgs (F := Bits))) table_eq

/-- The kernel as printed, whose text is the same, leaves its arguments, and its counters at zero. -/
theorem frame_kernel : Cert.quiescent_Kernel := fun m ρ _ => by
  have h := (θ_run Cert.KernelIdeal.defs _ _).mono (fun _ h => (⟨fun c => (h.1 c).2, h.2⟩ : (∀ _, _ ∧ _) ∧ _)) (run_main (F := Bits) m ρ)
  rw [← defs_eq] at h
  exact h

/-- The reference leaves its arguments, and its counters at zero. -/
theorem frame_reference : Cert.quiescent_ReferenceIdeal := fun m ρ _ => Cert.ReferenceIdeal.Gen.frame m ρ

end Cert.Exchange
-- ==== Proof.Scaling.lean ====
/-
# Scaling to the 8-bit range and back

The kernel multiplies by 448 / A, where A is the largest entry; the reference divides by A / 448. Over the extended reals the two
agree on every entry between 0 and A. And the largest entry, which both compute in their own order, is told by its upper bounds.
-/
module

public import Idealize.ShloMosaic.Lib.ValueIdx
public import Idealize.ShloMosaic.PureOps.Reduce
public import Idealize.ShloMosaic.PureOps.Ideal.Laws

@[expose] public section

noncomputable section

namespace Cert.Exchange

open Idealize.ShloMosaic Idealize.ShloMosaic.ValueIdx

/-- The largest number of the 8-bit format. -/
abbrev q448 : EReal := ((448 : ℝ) : EReal)

theorem bits_448 : Ideal.ofBits .f32 0x43E00000#32 = q448 := by
  simp [Ideal.ofBits, Ideal.ieee, -EReal.coe_mul]; norm_num
theorem bits_bot : Ideal.ofBits .f32 0xFF800000#32 = (⊥ : EReal) := by
  simp [Ideal.ofBits, Ideal.ieee]

theorem div_q448 (A : EReal) : Ideal.div A q448 = A * ((1 / 448 : ℝ) : EReal) := Ideal.div_coe (by norm_num) A

theorem div_top (v : EReal) : Ideal.div v ⊤ = 0 := by
  simp [Ideal.div]

/-- Multiplying by 448 / A and dividing by A / 448, each clipped at 448 and scaled back, agree on what lies between 0 and A. -/
theorem scaled {A v : EReal} (h0 : 0 ≤ v) (hA : v ≤ A) :
    min (v * Ideal.div q448 A) q448 * Ideal.div A q448 = min (Ideal.div v (Ideal.div A q448)) q448 * Ideal.div A q448 := by
  induction A using EReal.rec with
  | bot => exact absurd (h0.trans hA) (by simp)
  | top =>
    rw [div_top, div_q448, EReal.top_mul_coe_of_pos (by norm_num), div_top, mul_zero]
  | coe a =>
    induction v using EReal.rec with
    | bot => exact absurd h0 (by simp)
    | top => exact absurd hA (by simp)
    | coe w =>
      rcases eq_or_ne a 0 with rfl | ha
      · rw [div_q448 ((0 : ℝ) : EReal)]; simp
      · have hs : a * (1 / 448) ≠ 0 := mul_ne_zero ha (by norm_num)
        rw [div_q448, ← EReal.coe_mul, Ideal.div_coe ha, Ideal.div_coe hs, ← EReal.coe_mul, ← EReal.coe_mul, ← EReal.coe_mul]
        congr 4
        field_simp

/-- Every entry is at most `z`. -/
def Bounds {s : Shape} (f : s.Idx → EReal) (z : EReal) : Prop := ∀ i, f i ≤ z

/-- Laying the entries out in another shape keeps their upper bounds. -/
theorem bounds_cast {s t : Shape} (f : s.Idx → EReal) (h : s.ShapeCasts t) (z : EReal) : Bounds (shapeCast t f h) z ↔ Bounds f z := by
  constructor
  · intro hb i
    obtain ⟨j, rfl⟩ := (Shape.reshapeEquiv h).surjective i
    exact hb j
  · intro hb j; exact hb _

/-- The maximum of all entries, from minus infinity, is told by its upper bounds. -/
theorem max_le {s t : Shape} {axes : List (Fin s.rank)} [Subsingleton t.Idx] (f : FVec Ideal s .f32) (h : s.Reduces axes t) (hφ : FKind.Formats .f32)
    (hacc : (0xFF800000#32 : BitVec 32) = FKind.maximumf.neutral .f32 hφ) (j : t.Idx) (z : EReal) :
    (multiReduction .maximumf axes t f 0xFF800000#32 h hφ hacc j : EReal) ≤ z ↔ Bounds f z := by
  rw [multiReduction_maximumf_eq_fold]
  show Finset.fold (max : EReal → EReal → EReal) (Ideal.ofBits .f32 0xFF800000#32) f _ ≤ z ↔ _
  rw [bits_bot, Finset.fold_max_le]
  constructor
  · intro hb i; exact hb.2 i (Finset.mem_filter.2 ⟨Finset.mem_univ _, Subsingleton.elim _ _⟩)
  · intro hb; exact ⟨bot_le, fun i _ => hb i⟩

/-- The rectified product of the two arrays. -/
def Y (X : FVec Ideal ⟨2, ![4096, 4096]⟩ .f32) (W : FVec Ideal ⟨2, ![4096, 2048]⟩ .f32) (r : Fin 4096) (q : Fin 2048) : EReal :=
  max (∑ k : Fin 4096, (X (ix2 r k) * W (ix2 k q) : EReal)) 0
/-- It, as an array. -/
def YA (X : FVec Ideal ⟨2, ![4096, 4096]⟩ .f32) (W : FVec Ideal ⟨2, ![4096, 2048]⟩ .f32) : FVec Ideal ⟨2, ![4096, 2048]⟩ .f32 :=
  fun j => Y X W (j 0) (j 1)

theorem Y_nonneg (X : FVec Ideal ⟨2, ![4096, 4096]⟩ .f32) (W : FVec Ideal ⟨2, ![4096, 2048]⟩ .f32) (r : Fin 4096) (q : Fin 2048) : 0 ≤ Y X W r q :=
  le_max_right _ _

end Cert.Exchange
-- ==== Proof.KerValue.lean ====
/-
# What the kernel leaves

Over the extended reals: each device's received pieces are its 128 columns of the rectified product, the maximum it computes is the
product's largest entry, and its result is each of its entries times 448 / A, clipped at 448 and scaled back.
-/
module

public import proofs.«01_k».proof.Proof.Sched
public import proofs.«01_k».proof.Proof.Scaling
public import Idealize.ShloMosaic.Lib.ValueLayout
public import Idealize.ShloMosaic.Lib.MatmulPlain
public import Idealize.ShloMosaic.Lib.Pipeline.Value
public import Idealize.ShloMosaic.Lib.Layout

@[expose] public section

set_option maxRecDepth 16384

noncomputable section

namespace Cert.Exchange

open Cert.KernelIdeal Cert.KernelIdeal.Gen Idealize.ShloMosaic Idealize.ShloMosaic.TcCoe Idealize.ShloMosaic.ValueIdx Idealize.SL.Sem

section Shapes

variable {F : FTy → Type} [FloatOps F]

/-- The largest entry of a group's product. -/
def gmax (v : FVec F S256x512 .f32) : F .f32 :=
  extractAt ![0, 0, 0] (shapeCast S1x1x1 (multiReduction .maximumf [1, 2] S1 (shapeCast S1x256x512 v shapeCasts_S256x512_S1x256x512)
    0xFF800000#32 reduces_S1x256x512_S1 (.inl rfl) rfl) shapeCasts_S1_S1x1x1) inpos_S1x1x1_p0_0_0
/-- The largest entry of the received maxima. -/
def zmax (v : FVec F S16x8x128 .f32) : F .f32 :=
  extractAt ![0, 0, 0, 0] (shapeCast S1x1x1x1 (multiReduction .maximumf [1, 2, 3] S1 (shapeCast S1x16x8x128 v shapeCasts_S16x8x128_S1x16x8x128)
    0xFF800000#32 reduces_S1x16x8x128_S1 (.inl rfl) rfl) shapeCasts_S1_S1x1x1x1) inpos_S1x1x1x1_p0_0_0_0

theorem pay1_eq (a s : F .f32) (v : Vec F S16x256x128 .bf16) : k0_pay1 a s v =
    mulf (extf .f32 (truncf .fp8e4m3 (minimumf (mulf (extf .f32 (shapeCast S4096x128 v shapeCasts_S16x256x128_S4096x128) bitsLt_bf16_f32)
      (broadcast S4096x128 (Scalar.divf (Scalar.ofBits .f32 0x43E00000#32) a))) (broadcast S4096x128 (Scalar.ofBits .f32 0x43E00000#32)))
      bitsLt_fp8e4m3_f32) bitsLt_fp8e4m3_f32) (broadcast S4096x128 s) := rfl
theorem pay2_eq (x : Vec F S256x4096 .f32) (w : Vec F S1x4096x512 .f32) : k0_pay2 x w =
    maximumf (FloatOps.matmul (DotDims.plain 256 4096 512) none (shapeCast S256x4096 x shapeCasts_S256x4096_S256x4096)
      (shapeCast S4096x512 w shapeCasts_S1x4096x512_S4096x512) (constant S256x512 .f32 0x00000000#32)) (broadcast S256x512 (Scalar.ofBits .f32 0x00000000#32)) := rfl
/-- The later groups compute the same. -/
theorem pay18_eq (x : Vec F S256x4096 .f32) (w : Vec F S1x4096x512 .f32) : k0_pay18 x w = k0_pay2 x w := rfl
theorem pay4_eq (x : Vec F S256x4096 .f32) (w : Vec F S1x4096x512 .f32) :
    k0_pay4 (k0_pay3 x w) = Scalar.maximumf (Scalar.ofBits .f32 0x00000000#32) (gmax (k0_pay2 x w)) := rfl
theorem pay19_eq (a : F .f32) (x : Vec F S256x4096 .f32) (w : Vec F S1x4096x512 .f32) :
    k0_pay19 a x w = Scalar.maximumf a (gmax (k0_pay18 x w)) := rfl
theorem pay65_eq (a : F .f32) (j : S1x8x128.Idx) : k0_pay65 (k0_pay64 a) j = a := rfl
theorem pay66_eq (v : Vec F S16x8x128 .f32) : k0_pay66 v = zmax v := rfl
theorem pay67_eq (v : Vec F S16x8x128 .f32) : k0_pay67 v = Scalar.divf (k0_pay66 v) (Scalar.ofBits .f32 0x43E00000#32) := rfl

end Shapes

variable (m : (ℓ : Loc nD τ sig) → Buf (Elt Ideal) ℓ) (ρ : Dev nD → PrngReg)

instance : Subsingleton S1.Idx := ⟨fun i j => funext fun a => by fin_cases a; exact Subsingleton.elim (α := Fin 1) _ _⟩

/-! ## A device's part of the product -/

/-- One group's product, entry by entry. -/
theorem prod_apply (x : Vec Ideal S256x4096 .f32) (w : Vec Ideal S1x4096x512 .f32) (a : Fin 256) (b : Fin 512) :
    k0_pay2 x w (ix2 a b) = max (∑ k : Fin 4096, (x (ix2 a k) * w (ix3 (0 : Fin 1) k b) : EReal)) 0 := by
  have h := Ideal.matmul_plain_apply (M := 256) (K := 4096) (N := 512) (φ₁ := .f32) (φ₂ := .f32) none x (shapeCast S4096x512 w shapeCasts_S1x4096x512_S4096x512)
    (constant S256x512 .f32 0x00000000#32) a b
  rw [pay2_eq, maximumf_apply, shapeCast_self]
  refine congrArg₂ max (h.trans ?_) Ideal.ofBits_zero_f32
  refine (congrArg (· + _) Ideal.ofBits_zero_f32).trans ((zero_add _).trans (Finset.sum_congr rfl fun k _ => ?_))
  rw [shapeCast_1ab_ab_apply]

theorem XV_apply (c : Dev nD) (a : Fin 256) (k : Fin 4096) : XV m ρ c (ix2 a k) = m ((c : Thread nD τ).loc main_arg0) (ix2 a k) := by
  show m ((c : Thread nD τ).loc main_arg0) _ = m ((c : Thread nD τ).loc main_arg0) _
  refine congrArg (m ((c : Thread nD τ).loc main_arg0)) (funext fun i => Fin.ext ?_)
  fin_cases i
  · show 0 * 256 + 1 * a.val = a.val; omega
  · show 0 * 4096 + 1 * k.val = k.val; omega

variable (X : FVec Ideal ⟨2, ![4096, 4096]⟩ .f32) (W : FVec Ideal ⟨2, ![4096, 2048]⟩ .f32)

/-- Each device holds its 256 rows of `X` and all of `W`. -/
structure Given : Prop where
  rows : ∀ (c : Dev nD) (a : Fin 256) (k : Fin 4096) (h : 256 * c.val + a.val < 4096), m ((c : Thread nD τ).loc main_arg0) (ix2 a k) = X (ix2 ⟨256 * c.val + a.val, h⟩ k)
  weights : ∀ c : Dev nD, m ((c : Thread nD τ).loc main_arg1) = W

variable {m X W} (hG : Given m X W)

theorem row_lt (c : Dev nD) (a : Fin 256) : 256 * c.val + a.val < 4096 := by
  have := a.isLt; have := c.isLt; unfold nD at *; omega

include hG in
/-- A group's product is those entries of the rectified product. -/
theorem group_apply (c : Dev nD) (i : ℕ) (a : Fin 256) (b : Fin 512) :
    k0_pay2 (XV m ρ c) (WV m c i) (ix2 a b) = Y X W ⟨256 * c.val + a.val, row_lt c a⟩ ⟨wcol c i + b.val, wcol_add_lt c i b⟩ := by
  rw [prod_apply]
  unfold Y
  refine congrArg (max · 0) (Finset.sum_congr rfl fun k _ => ?_)
  rw [XV_apply, hG.rows c a k (row_lt c a)]
  exact congrArg (X (ix2 ⟨256 * c.val + a.val, row_lt c a⟩ k) * · : EReal → EReal) (congrFun (hG.weights c) _)

/-! ## The maximum -/

theorem gmax_le (v : FVec Ideal S256x512 .f32) (z : EReal) : (gmax v : EReal) ≤ z ↔ Bounds (s := S256x512) v z :=
  (max_le (t := S1) _ _ (.inl rfl) rfl _ z).trans (bounds_cast (s := S256x512) _ _ z)
theorem zmax_le (v : FVec Ideal S16x8x128 .f32) (z : EReal) : (zmax v : EReal) ≤ z ↔ Bounds (s := S16x8x128) v z :=
  (max_le (t := S1) _ _ (.inl rfl) rfl _ z).trans (bounds_cast (s := S16x8x128) _ _ z)
theorem smax_le (a b : Ideal .f32) (z : EReal) : (Scalar.maximumf a b : EReal) ≤ z ↔ (a : EReal) ≤ z ∧ (b : EReal) ≤ z := max_le_iff

theorem first_le (x : Vec Ideal S256x4096 .f32) (w : Vec Ideal S1x4096x512 .f32) (z : EReal) :
    (k0_pay4 (k0_pay3 x w) : EReal) ≤ z ↔ 0 ≤ z ∧ Bounds (s := S256x512) (k0_pay2 x w) z := by
  rw [pay4_eq, smax_le, gmax_le]
  exact and_congr (by rw [show (Scalar.ofBits (F := Ideal) .f32 0x00000000#32 : EReal) = 0 from Ideal.ofBits_zero_f32]) Iff.rfl

theorem later_le (v : EReal) (x : Vec Ideal S256x4096 .f32) (w : Vec Ideal S1x4096x512 .f32) (z : EReal) :
    (k0_pay19 (F := Ideal) v x w : EReal) ≤ z ↔ v ≤ z ∧ Bounds (s := S256x512) (k0_pay2 x w) z := by
  rw [pay19_eq, smax_le, gmax_le, pay18_eq]

/-- A device's running maximum is the largest entry of the groups so far, and zero. -/
theorem MV_le (c : Dev nD) (n : ℕ) (z : EReal) :
    (MV m ρ c n : EReal) ≤ z ↔ 0 ≤ z ∧ ∀ i ≤ n, Bounds (s := S256x512) (k0_pay2 (XV m ρ c) (WV m c i)) z := by
  induction n with
  | zero =>
    refine (first_le _ _ z).trans (and_congr Iff.rfl ⟨fun h i hi => ?_, fun h => h 0 le_rfl⟩)
    obtain rfl : i = 0 := Nat.le_zero.1 hi
    exact h
  | succ n ih =>
    refine (later_le _ _ _ z).trans ⟨fun h => ⟨(ih.1 h.1).1, fun i hi => ?_⟩, fun h => ⟨ih.2 ⟨h.1, fun i hi => h.2 i (hi.trans n.le_succ)⟩, h.2 _ le_rfl⟩⟩
    rcases Nat.le_succ_iff.1 hi with h' | rfl
    · exact (ih.1 h.1).2 i h'
    · exact h.2

/-- The received maxima's largest is the largest of all devices'. -/
theorem all_le (c : Dev nD) (z : EReal) : (k0_pay66 (ZV m ρ c) : EReal) ≤ z ↔ ∀ d : Dev nD, (MV m ρ d 3 : EReal) ≤ z := by
  have hz : ∀ i : S16x8x128.Idx, ZV m ρ c i = MV m ρ (i 0) 3 := fun i => by unfold ZV; exact pay65_eq _ _
  rw [pay66_eq]
  refine (zmax_le _ z).trans ⟨fun h d => ?_, fun h i => ?_⟩
  · exact (hz (ix3 d (0 : Fin 8) (0 : Fin 128))) ▸ h (ix3 d (0 : Fin 8) (0 : Fin 128))
  · rw [hz]; exact h _

include hG in
/-- The maximum every device computes is the largest entry of the rectified product. -/
theorem max_of_all (c : Dev nD) (z : EReal) : (k0_pay66 (ZV m ρ c) : EReal) ≤ z ↔ Bounds (s := ⟨2, ![4096, 2048]⟩) (YA X W) z := by
  rw [all_le]
  constructor
  · intro h j
    obtain ⟨r, q, rfl⟩ : ∃ (r : Fin 4096) (q : Fin 2048), j = ix2 r q := ⟨j 0, j 1, eq_ix2 j⟩
    have hr := r.isLt
    have hq := q.isLt
    let d : Dev nD := ⟨r.val / 256, by unfold nD; omega⟩
    let i : ℕ := (q.val / 512 + 3 - d.val / 4) % 4
    have hd : d.val = r.val / 256 := rfl
    have hc : wcol d i = q.val / 512 * 512 := by
      have : d.val < 16 := d.isLt
      show (d.val / 4 + 1 + (q.val / 512 + 3 - d.val / 4) % 4) % 4 * 512 = _
      omega
    have h' := ((MV_le ρ d 3 z).1 (h d)).2 i (by show (q.val / 512 + 3 - d.val / 4) % 4 ≤ 3; omega)
      (ix2 (⟨r.val % 256, Nat.mod_lt _ (by norm_num)⟩ : Fin 256) (⟨q.val % 512, Nat.mod_lt _ (by norm_num)⟩ : Fin 512))
    rw [group_apply ρ hG] at h'
    have e0 : (⟨256 * d.val + r.val % 256, row_lt d ⟨r.val % 256, Nat.mod_lt _ (by norm_num)⟩⟩ : Fin 4096) = r := Fin.ext (by show 256 * d.val + r.val % 256 = r.val; omega)
    have e1 : (⟨wcol d i + q.val % 512, wcol_add_lt d i ⟨q.val % 512, Nat.mod_lt _ (by norm_num)⟩⟩ : Fin 2048) = q := Fin.ext (by show wcol d i + q.val % 512 = q.val; omega)
    have h'' : Y X W ⟨256 * d.val + r.val % 256, row_lt d ⟨r.val % 256, Nat.mod_lt _ (by norm_num)⟩⟩ ⟨wcol d i + q.val % 512, wcol_add_lt d i ⟨q.val % 512, Nat.mod_lt _ (by norm_num)⟩⟩ ≤ z := h'
    rw [e0, e1] at h''
    exact h''
  · intro h d
    refine (MV_le ρ d 3 z).2 ⟨(Y_nonneg X W 0 0).trans (h (ix2 (0 : Fin 4096) (0 : Fin 2048))), fun i _ j => ?_⟩
    obtain ⟨a, b, rfl⟩ : ∃ (a : Fin 256) (b : Fin 512), j = ix2 a b := ⟨j 0, j 1, eq_ix2 j⟩
    rw [group_apply ρ hG]
    exact h (ix2 ⟨256 * d.val + a.val, row_lt d a⟩ ⟨wcol d i + b.val, wcol_add_lt d i b⟩)

/-! ## The received pieces -/

/-- The `t`-th piece is the `t`-th 128 columns. -/
theorem PP_apply (t : ℕ) (ht : t < 4) (v : FVec Ideal S256x512 .bf16) (a : Fin 256) (b : Fin 128) :
    PP t v (ix3 (0 : Fin 1) a b) = v (ix2 a (⟨128 * t + b.val, by have := b.isLt; omega⟩ : Fin 512)) := by
  have hs : ∀ (o : ℕ) (h : o + 128 ≤ 512) (hx) (hy), shapeCast S1x256x128 (extractStridedSlice S256x128 ![0, o] v hx) hy (ix3 (0 : Fin 1) a b)
      = v (ix2 a (⟨o + b.val, by have := b.isLt; omega⟩ : Fin 512)) := by
    intro o h hx hy
    rw [shapeCast_ab_1ab_apply]
    exact slice2_axis1_apply o v hx a b _ rfl
  match t, ht with
  | 0, _ => exact hs 0 (by norm_num) slices_S256x512_o0_0_S256x128 shapeCasts_S256x128_S1x256x128
  | 1, _ => exact hs 128 (by norm_num) slices_S256x512_o0_128_S256x128 shapeCasts_S256x128_S1x256x128
  | 2, _ => exact hs 256 (by norm_num) slices_S256x512_o0_256_S256x128 shapeCasts_S256x128_S1x256x128
  | 3, _ => exact hs 384 (by norm_num) slices_S256x512_o0_384_S256x128 shapeCasts_S256x128_S1x256x128

theorem col_lt (c : Dev nD) (b : Fin 128) : 128 * c.val + b.val < 2048 := by
  have := b.isLt; have := c.isLt; unfold nD at *; omega

include hG in
/-- What device `c` receives from device `s`: rows of `s`, columns of `c`. -/
theorem RV_apply (c s : Dev nD) (a : Fin 256) (b : Fin 128) :
    RV m ρ c (ix3 s a b) = Y X W ⟨256 * s.val + a.val, row_lt s a⟩ ⟨128 * c.val + b.val, col_lt c b⟩ := by
  have h1 : RV m ρ c (ix3 s a b) = PP (c.val % 4) (CB m ρ s (rk s c / 4)) (ix3 (0 : Fin 1) a b) := rfl
  have h2 : ∀ j, CB m ρ s (rk s c / 4) j = k0_pay2 (XV m ρ s) (WV m s (rk s c / 4)) j := fun _ => rfl
  rw [h1, PP_apply _ (Nat.mod_lt _ (by norm_num)), h2, group_apply ρ hG]
  refine congrArg (Y X W _) (Fin.ext ?_)
  show wcol s (rk s c / 4) + (128 * (c.val % 4) + b.val) = 128 * c.val + b.val
  have hs : s.val < 16 := s.isLt
  have hc : c.val < 16 := c.isLt
  unfold wcol rk
  omega

/-- The result, entry by entry. -/
theorem pay1_apply (A S : EReal) (v : Vec Ideal S16x256x128 .bf16) (r : Fin 4096) (b : Fin 128) :
    k0_pay1 (F := Ideal) A S v (ix2 r b) = min (v (ix3 (⟨r.val / 256, by have := r.isLt; omega⟩ : Fin 16) (⟨r.val % 256, Nat.mod_lt _ (by norm_num)⟩ : Fin 256) b) * Ideal.div q448 A) q448 * S := by
  have e : shapeCast S4096x128 v shapeCasts_S16x256x128_S4096x128 (ix2 r b)
      = v (ix3 (⟨r.val / 256, by have := r.isLt; omega⟩ : Fin 16) (⟨r.val % 256, Nat.mod_lt _ (by norm_num)⟩ : Fin 256) b) := by
    refine shapeCast_apply v _ (ix2 r b) _ ?_
    rw [Shape.rowMajor_val_two, Shape.rowMajor_val_three]
    show (r.val / 256 * 256 + r.val % 256) * 128 + b.val = r.val * 128 + b.val
    omega
  rw [pay1_eq, mulf_apply, extf_apply, truncf_apply, minimumf_apply, mulf_apply, extf_apply, e, ← bits_448]
  rfl

include hG in
/-- Each device's result is its columns of the rectified product, each entry times 448 / A, clipped at 448 and scaled back. -/
theorem OV_apply (c : Dev nD) (r : Fin 4096) (b : Fin 128) :
    OV m ρ c (ix2 r b) = min (Y X W r ⟨128 * c.val + b.val, col_lt c b⟩ * Ideal.div q448 (k0_pay66 (ZV m ρ c))) q448 * Ideal.div (k0_pay66 (ZV m ρ c)) q448 := by
  have hS : (k0_pay67 (ZV m ρ c) : EReal) = Ideal.div (k0_pay66 (ZV m ρ c)) (Ideal.ofBits .f32 0x43E00000#32) := pay67_eq _
  unfold OV
  rw [pay1_apply, hS, bits_448]
  have hr := r.isLt
  have h := RV_apply ρ hG c (⟨r.val / 256, by unfold nD; omega⟩ : Dev nD) (⟨r.val % 256, Nat.mod_lt _ (by norm_num)⟩ : Fin 256) b
  have e0 : (⟨256 * (r.val / 256) + r.val % 256, by omega⟩ : Fin 4096) = r := Fin.ext (by show 256 * (r.val / 256) + r.val % 256 = r.val; omega)
  have h' : RV m ρ c (ix3 (⟨r.val / 256, by omega⟩ : Fin 16) (⟨r.val % 256, Nat.mod_lt _ (by norm_num)⟩ : Fin 256) b)
      = Y X W ⟨256 * (r.val / 256) + r.val % 256, by omega⟩ ⟨128 * c.val + b.val, col_lt c b⟩ := h
  rw [e0] at h'
  rw [h']

end Cert.Exchange
-- ==== Proof.RefValue.lean ====
/-
# What the reference leaves

Its result is the rectified product, every entry divided by A / 448, clipped at 448 and scaled back, A being the largest entry.
-/
module

public import proofs.«01_k».proof.Proof.Gen.ReferenceIdeal.Value
public import proofs.«01_k».proof.Proof.Scaling
public import Idealize.ShloMosaic.Lib.StackMember
public import Idealize.ShloMosaic.Lib.StableHlo.Run
public import Idealize.ShloMosaic.Lib.Pipeline.Value

@[expose] public section

set_option maxRecDepth 16384

noncomputable section

namespace Cert.Exchange.Ref

open Cert.ReferenceIdeal Cert.ReferenceIdeal.Gen Cert.Exchange Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- The array the quantiser is given: the host's product, rectified. -/
def HV (c : Dev nD) : FVec F S4096x2048 .f32 :=
  maximumf (Host.dotGeneral dot_S4096x4096_S4096x2048_S4096x2048_1_0_0_1_n_n none (m ((c : Thread nD τ).loc main_arg0)) (m ((c : Thread nD τ).loc main_arg1)))
    (broadcastInDim S4096x2048 ![] bcast_S_S4096x2048 (constant S_ .f32 0x00000000#32))

theorem V_main_v2 (c : Dev nD) : V m c main_v2 = HV m c := by
  show StableHlo.after hostOps0 _ (Proc.devRef .tc main_v2) = _
  after_results
  rfl

theorem off_zero : (![0, 0] : Fin 2 → Nat) = fun _ => 0 := funext fun a => by fin_cases a <;> rfl

/-- Its one block is the whole of it. -/
theorem iblk_eq (c : Dev nD) : iblk m c 0 t0_0 = HV m c := by
  have h : iblk m c 0 t0_0 = ((cfg0.win 0).blk t0_0).view.read (Elt F) (HV m c) := by
    unfold iblk
    exact congrArg _ (V_main_v2 m c)
  rw [h]
  funext y
  show HV m c _ = HV m c _
  refine congrArg (HV m c) (funext fun a => Fin.ext ?_)
  fin_cases a
  · show 0 * 4096 + 1 * (y (0 : Fin 2)).val = (y (0 : Fin 2)).val; omega
  · show 0 * 2048 + 1 * (y (1 : Fin 2)).val = (y (1 : Fin 2)).val; omega

theorem out_eq (x : Vec F S4096x2048 .f32) : out0_1 x = k0_pay1 x := by
  unfold out0_1
  rw [View.canon_unit_zero off_zero, View.ld_unit_zero off_zero]

theorem out_flushed (c : Dev nD) (t : Fin cfg0.N) :
    (dats m 0 c).flushed (1 : Fin 2) t = ((cfg0.win (1 : Fin 2)).blk t).view.read (Elt F) (k0_pay1 (HV m c)) := by
  obtain rfl := fin_N0 t
  rw [Value.flushed1, iblk_eq, out_eq]
  funext y
  show k0_pay1 (HV m c) _ = k0_pay1 (HV m c) _
  refine congrArg (k0_pay1 (HV m c)) (funext fun a => Fin.ext ?_)
  fin_cases a
  · show (y (0 : Fin 2)).val = 0 * 4096 + 1 * (y (0 : Fin 2)).val; omega
  · show (y (1 : Fin 2)).val = 0 * 2048 + 1 * (y (1 : Fin 2)).val; omega

theorem out_cover (i : S4096x2048.Idx) : ∃ t : Fin cfg0.N, (cfg0.win (1 : Fin 2)).flush t = true ∧ i ∈ ((cfg0.win (1 : Fin 2)).blk t).view.set := by
  refine ⟨t0_0, flush0_1 _, ?_⟩
  show i ∈ ((View.whole main_v3).slice (win0_1.rect t0_0)).set
  rw [View.set_slice_whole, Rect.mem_set_unit]
  have h0 : (i 0 : Nat) < 4096 := (i 0).isLt
  have h1 : (i 1 : Nat) < 2048 := (i 1).isLt
  intro a
  fin_cases a
  · show 0 * 4096 ≤ (i 0 : Nat) ∧ (i 0 : Nat) < 0 * 4096 + 4096; omega
  · show 0 * 2048 ≤ (i 1 : Nat) ∧ (i 1 : Nat) < 0 * 2048 + 2048; omega

/-- The result array is the quantiser's value of the rectified product. -/
theorem final_out (c : Dev nD) : (dats m 0 c).arrAt (1 : Fin 2) cfg0.N = k0_pay1 (HV m c) :=
  (dats m 0 c).arrAt_eq_of_cover (1 : Fin 2) (k0_pay1 (HV m c)) (fun t _ => out_flushed m c t) out_cover

end Cert.Exchange.Ref

namespace Cert.Exchange.Ref

open Cert.ReferenceIdeal Cert.ReferenceIdeal.Gen Cert.Exchange Idealize.ShloMosaic Idealize.ShloMosaic.TcCoe Idealize.ShloMosaic.ValueIdx Idealize.SL.Sem

/-- Over the extended reals the host's rectified product is the sum of products, at least zero. -/
theorem HV_eq (m : (ℓ : Loc nD τ sig) → Buf (Elt Ideal) ℓ) (c : Dev nD) :
    HV m c = YA (m ((c : Thread nD τ).loc main_arg0)) (m ((c : Thread nD τ).loc main_arg1)) := by
  funext j
  obtain ⟨r, q, rfl⟩ : ∃ (r : Fin 4096) (q : Fin 2048), j = ix2 r q := ⟨j 0, j 1, eq_ix2 j⟩
  have h := StackMember.dotGeneral_plain_apply (m := 4096) (n := 2048) (k := 4096) (φ₁ := .f32) (φ₂ := .f32) none
    (m ((c : Thread nD τ).loc main_arg0)) (m ((c : Thread nD τ).loc main_arg1)) r q
  show max (Host.dotGeneral (F := Ideal) (DotDims.plain 4096 4096 2048) none (m ((c : Thread nD τ).loc main_arg0)) (m ((c : Thread nD τ).loc main_arg1)) (ix2 r q) : EReal)
    (Ideal.ofBits .f32 0x00000000#32) = _
  rw [h, Ideal.ofBits_zero_f32]
  rfl

/-- The largest absolute entry of an array. -/
def amax (x : FVec Ideal S4096x2048 .f32) : EReal :=
  extractAt ![0, 0, 0] (shapeCast S1x1x1 (multiReduction .maximumf [1, 2] S1 (shapeCast S1x4096x2048 (absf x) shapeCasts_S4096x2048_S1x4096x2048)
    0xFF800000#32 reduces_S1x4096x2048_S1 (.inl rfl) rfl) shapeCasts_S1_S1x1x1) inpos_S1x1x1_p0_0_0

instance : Subsingleton S1.Idx := ⟨fun i j => funext fun a => by fin_cases a; exact Subsingleton.elim (α := Fin 1) _ _⟩

/-- Of an array without negative entries, it is the largest entry. -/
theorem amax_le (x : FVec Ideal S4096x2048 .f32) (hx : ∀ j, (0 : EReal) ≤ x j) (z : EReal) : amax x ≤ z ↔ Bounds (s := S4096x2048) x z := by
  have ha : absf x = x := funext fun j => max_eq_left (a := (x j : EReal)) ((EReal.neg_le_neg_iff.2 (hx j)).trans (by simpa using hx j))
  unfold amax
  rw [ha]
  exact (max_le (t := S1) _ _ (.inl rfl) rfl _ z).trans (bounds_cast (s := S4096x2048) x _ z)

/-- The quantiser's value, entry by entry. -/
theorem pay_apply (x : FVec Ideal S4096x2048 .f32) (j : S4096x2048.Idx) :
    (k0_pay1 (F := Ideal) x j : EReal) = min (Ideal.div (x j) (Ideal.div (amax x) q448)) q448 * Ideal.div (amax x) q448 := by
  have h : (k0_pay1 (F := Ideal) (shapeCast S4096x2048 x shapeCasts_S4096x2048_S4096x2048) j : EReal)
      = min (Ideal.div (x j) (Ideal.div (amax x) (Ideal.ofBits .f32 0x43E00000#32))) (Ideal.ofBits .f32 0x43E00000#32)
        * Ideal.div (amax x) (Ideal.ofBits .f32 0x43E00000#32) := by
    unfold k0_pay1
    simp only [shapeCast_self]
    rfl
  rw [shapeCast_self, bits_448] at h
  exact h

end Cert.Exchange.Ref
-- ==== Proof.Value.lean ====
/-
# The kernel's result is the reference's

From arguments that are the parts of one pair of arrays, each device's result is its 128 columns of what the reference leaves.
-/
module

public import proofs.«01_k».proof.Defs
public import proofs.«01_k».proof.Proof.Launch
public import proofs.«01_k».proof.Proof.KerValue
public import proofs.«01_k».proof.Proof.RefValue
public import proofs.«01_k».proof.Proof.Gen.Kernel

@[expose] public section

set_option maxRecDepth 16384

noncomputable section

namespace Cert.Exchange

open Idealize.ShloMosaic Idealize.ShloMosaic.TcCoe Idealize.ShloMosaic.ValueIdx Idealize.SL.Sem

open Cert.KernelIdeal in
/-- Cut by rows, each device holds its 256. -/
theorem given_of (m : (ℓ : Loc nD τ sig) → Buf (Elt Ideal) ℓ) (X : FVec Ideal ⟨2, ![4096, 4096]⟩ .f32) (W : FVec Ideal ⟨2, ![4096, 2048]⟩ .f32)
    (h : ∀ c : Dev nD, m ((c : Thread nD τ).loc main_arg0) = Layout.block ⟨2, ![256, 4096]⟩ ⟨2, ![4096, 4096]⟩ 0 16 c X ∧ m ((c : Thread nD τ).loc main_arg1) = W) :
    Given m X W := by
  refine ⟨fun c a k hlt => ?_, fun c => (h c).2⟩
  rw [(h c).1, Layout.block_apply]
  refine congrArg X (funext fun i => Fin.ext ?_)
  fin_cases i
  · refine ((Layout.idx_rows_val _ c (ix2 a k)).1).trans ?_
    show c.val * 256 + a.val = 256 * c.val + a.val; omega
  · exact (Layout.idx_rows_val _ c (ix2 a k)).2

open Cert.KernelIdeal in
/-- A device's result is its columns of the reference's. -/
theorem out_is_block (m : (ℓ : Loc nD τ sig) → Buf (Elt Ideal) ℓ) (ρ : Dev nD → PrngReg)
    (X : FVec Ideal ⟨2, ![4096, 4096]⟩ .f32) (W : FVec Ideal ⟨2, ![4096, 2048]⟩ .f32) (hG : Given m X W) (c : Dev nD) :
    OV m ρ c = Layout.block ⟨2, ![4096, 128]⟩ ⟨2, ![4096, 2048]⟩ 1 16 c (Cert.ReferenceIdeal.Gen.k0_pay1 (F := Ideal) (YA X W)) := by
  funext j
  obtain ⟨r, b, rfl⟩ : ∃ (r : Fin 4096) (b : Fin 128), j = ix2 r b := ⟨j 0, j 1, eq_ix2 j⟩
  have hA : (Cert.KernelIdeal.Gen.k0_pay66 (ZV m ρ c) : EReal) = Ref.amax (YA X W) :=
    eq_of_forall_ge_iff fun z => (max_of_all ρ hG c z).trans (Ref.amax_le (YA X W) (fun j => Y_nonneg X W (j 0) (j 1)) z).symm
  have hb : (Layout.block ⟨2, ![4096, 128]⟩ ⟨2, ![4096, 2048]⟩ 1 16 c (Cert.ReferenceIdeal.Gen.k0_pay1 (F := Ideal) (YA X W))) (ix2 r b)
      = Cert.ReferenceIdeal.Gen.k0_pay1 (F := Ideal) (YA X W) (ix2 r (⟨128 * c.val + b.val, col_lt c b⟩ : Fin 2048)) := by
    rw [Layout.block_apply]
    refine congrArg _ (funext fun i => Fin.ext ?_)
    fin_cases i
    · exact (Layout.idx_cols_val _ c (ix2 r b)).1
    · refine ((Layout.idx_cols_val _ c (ix2 r b)).2).trans ?_
      show c.val * 128 + b.val = 128 * c.val + b.val; omega
  rw [OV_apply ρ hG, hA, hb, Ref.pay_apply]
  exact scaled (Y_nonneg X W _ _) ((Ref.amax_le (YA X W) (fun j => Y_nonneg X W (j 0) (j 1)) _).1 le_rfl (ix2 r (⟨128 * c.val + b.val, col_lt c b⟩ : Fin 2048)))

/-- Over the extended reals the sixteen devices compute the reference's result, each its block of columns. -/
theorem algebraic : Cert.algebraic_KernelIdeal_ReferenceIdeal := by
  intro m ρ m' ρ' _ hin
  refine ⟨Cert.ReferenceIdeal.Gen.k0_pay1 (F := Ideal) (YA (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun _ h c => ⟨((h.1 c).1).trans ?_, (h.1 c).2⟩) (run_main (F := Ideal) m ρ)
    exact out_is_block m ρ _ _ (given_of m _ _ hin) c
  · refine (θ_run Cert.ReferenceIdeal.defs _ _).mono (fun _ h => ⟨((h 0).1).trans ?_, (h 0).2⟩) (Cert.ReferenceIdeal.Value.run_blocks (F := Ideal) m' ρ')
    rw [Ref.final_out, Ref.HV_eq]

end Cert.Exchange
-- ==== Proof.lean ====
/-
# The claims

The frames of the three programs, the idealization (no rewrite), and the reference's result computed by the sixteen devices.
-/
module

public import proofs.«01_k».proof.Defs
public import proofs.«01_k».proof.Proof.Frames
public import proofs.«01_k».proof.Proof.Value

@[expose] public section

noncomputable section

namespace Cert.Proof

/-- All that is claimed. -/
theorem claim : Cert.Claim :=
  ⟨Cert.Kernel.Gen.facts, Cert.KernelIdeal.Gen.facts, Cert.ReferenceIdeal.Gen.facts,
    Cert.Exchange.frame_kernel, Cert.Exchange.frame_ideal, Cert.Exchange.frame_reference, trivial, Cert.Exchange.algebraic⟩

end Cert.Proof

end
